-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![4096, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 2048]⟩ ⟨2, ![512, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S64x2048 : Shape := ⟨2, ![64, 2048]⟩
abbrev S3x3x2x64x256 : Shape := ⟨5, ![3, 3, 2, 64, 256]⟩
abbrev S3x64x256 : Shape := ⟨3, ![3, 64, 256]⟩
abbrev S5x256x256 : Shape := ⟨3, ![5, 256, 256]⟩
abbrev S5x3x64x256 : Shape := ⟨4, ![5, 3, 64, 256]⟩
abbrev S3x3 : Shape := ⟨2, ![3, 3]⟩
abbrev S3 : Shape := ⟨1, ![3]⟩
abbrev S5 : Shape := ⟨1, ![5]⟩
abbrev S5x3 : Shape := ⟨2, ![5, 3]⟩
abbrev S_ : Shape := ⟨0, ![]⟩
abbrev S512x256 : Shape := ⟨2, ![512, 256]⟩
abbrev S256x256 : Shape := ⟨2, ![256, 256]⟩
abbrev S1x256x256 : Shape := ⟨3, ![1, 256, 256]⟩
abbrev S1 : Shape := ⟨1, ![1]⟩
abbrev S64x256 : Shape := ⟨2, ![64, 256]⟩
abbrev S1x1x1x64x256 : Shape := ⟨5, ![1, 1, 1, 64, 256]⟩
abbrev S1x1 : Shape := ⟨2, ![1, 1]⟩
abbrev S1x1x2x64x256 : Shape := ⟨5, ![1, 1, 2, 64, 256]⟩
abbrev S2x64x256 : Shape := ⟨3, ![2, 64, 256]⟩
abbrev S1x64x256 : Shape := ⟨3, ![1, 64, 256]⟩
abbrev S1x1x64x256 : Shape := ⟨4, ![1, 1, 64, 256]⟩

abbrev nBuf : Space → Nat
  | .hbm => 3
  | .vmem => 14
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S64x2048, .f32⟩
  | .local _ .vmem, ⟨0, _⟩ => ⟨S512x512, .f32⟩
  | .local _ .vmem, ⟨1, _⟩ => ⟨S512x2048, .f32⟩
  | .local _ .vmem, ⟨2, _⟩ => ⟨S64x2048, .f32⟩
  | .local _ .vmem, ⟨3, _⟩ => ⟨S512x2048, .f32⟩
  | .local _ .vmem, ⟨4, _⟩ => ⟨S3x3x2x64x256, .bf16⟩
  | .local _ .vmem, ⟨5, _⟩ => ⟨S3x3x2x64x256, .bf16⟩
  | .local _ .vmem, ⟨6, _⟩ => ⟨S3x64x256, .f32⟩
  | .local _ .vmem, ⟨7, _⟩ => ⟨S3x64x256, .bf16⟩
  | .local _ .vmem, ⟨8, _⟩ => ⟨S3x64x256, .bf16⟩
  | .local _ .vmem, ⟨9, _⟩ => ⟨S5x256x256, .bf16⟩
  | .local _ .vmem, ⟨10, _⟩ => ⟨S5x256x256, .bf16⟩
  | .local _ .vmem, ⟨11, _⟩ => ⟨S5x256x256, .f32⟩
  | .local _ .vmem, ⟨12, _⟩ => ⟨S5x3x64x256, .bf16⟩
  | .local _ .vmem, ⟨13, _⟩ => ⟨S5x3x64x256, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c4_i32_2 : BitVec 32 := 4#32
  let v6 : BitVec 32 := Scalar.addi v3 c4_i32_2
  let c1_i32_3 : BitVec 32 := 1#32
  let v7 : BitVec 32 := Scalar.subi v6 c1_i32_3
  let c4_i32_4 : BitVec 32 := 4#32
  let v8 : BitVec 32 := Scalar.remsi v7 c4_i32_4
  let v9 : BitVec 32 := Scalar.addi v5 v8
  let c1_i32_13 : BitVec 32 := 1#32
  let v21 : BitVec 32 := Scalar.muli v9 c1_i32_13
  let v22 : BitVec 32 := Scalar.addi c0_i32 v21
  v22.toNat
def k0_dev2 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_5 : BitVec 32 := 4#32
  let v10 : BitVec 32 := Scalar.muli v4 c4_i32_5
  let c4_i32 : BitVec 32 := 4#32
  let v3 : BitVec 32 := Scalar.remsi v2 c4_i32
  let c1_i32_6 : BitVec 32 := 1#32
  let v11 : BitVec 32 := Scalar.addi v3 c1_i32_6
  let c4_i32_7 : BitVec 32 := 4#32
  let v12 : BitVec 32 := Scalar.remsi v11 c4_i32_7
  let v13 : BitVec 32 := Scalar.addi v10 v12
  let c1_i32_15 : BitVec 32 := 1#32
  let v23 : BitVec 32 := Scalar.muli v13 c1_i32_15
  let v24 : BitVec 32 := Scalar.addi c0_i32_16 v23
  v24.toNat
def k0_dev3 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_8 : BitVec 32 := 4#32
  let v14 : BitVec 32 := Scalar.muli v4 c4_i32_8
  let c4_i32 : BitVec 32 := 4#32
  let v3 : BitVec 32 := Scalar.remsi v2 c4_i32
  let c2_i32 : BitVec 32 := 2#32
  let v15 : BitVec 32 := Scalar.addi v3 c2_i32
  let c4_i32_9 : BitVec 32 := 4#32
  let v16 : BitVec 32 := Scalar.remsi v15 c4_i32_9
  let v17 : BitVec 32 := Scalar.addi v14 v16
  let c1_i32_18 : BitVec 32 := 1#32
  let v25 : BitVec 32 := Scalar.muli v17 c1_i32_18
  let v26 : BitVec 32 := Scalar.addi c0_i32_19 v25
  v26.toNat
def k0_dev4 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_21 : BitVec 32 := 1#32
  let v27 : BitVec 32 := Scalar.muli v19 c1_i32_21
  let v28 : BitVec 32 := Scalar.addi c0_i32_22 v27
  v28.toNat
def k0_off1 (d0 : Dev nD) : Fin 2 → Nat :=
  let c1_i32_28 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v39 : BitVec 32 := Scalar.subi c1_i32_28 v4
  let c4_i32_29 : BitVec 32 := 4#32
  let v40 : BitVec 32 := Scalar.muli v39 c4_i32_29
  let c64_i32 : BitVec 32 := 64#32
  let v41 : BitVec 32 := Scalar.muli v40 c64_i32
  let v42 : Index := Scalar.indexCast v41
  let c768_30 : Index := 768#32
  ![v42.toNat, 768]
def k0_dev5 (d0 : Dev nD) : Nat :=
  let c0_i32_39 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_38 : BitVec 32 := 1#32
  let v48 : BitVec 32 := Scalar.muli v19 c1_i32_38
  let v49 : BitVec 32 := Scalar.addi c0_i32_39 v48
  v49.toNat
def k0_off2 (d0 : Dev nD) : Fin 2 → Nat :=
  let c1_i32_50 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v68 : BitVec 32 := Scalar.subi c1_i32_50 v4
  let c4_i32_51 : BitVec 32 := 4#32
  let v69 : BitVec 32 := Scalar.muli v68 c4_i32_51
  let c64_i32_52 : BitVec 32 := 64#32
  let v70 : BitVec 32 := Scalar.muli v69 c64_i32_52
  let v71 : Index := Scalar.indexCast v70
  let c1024_53 : Index := 1024#32
  ![v71.toNat, 1024]
def k0_dev6 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_60 : BitVec 32 := 1#32
  let v77 : BitVec 32 := Scalar.muli v19 c1_i32_60
  let v78 : BitVec 32 := Scalar.addi c0_i32_61 v77
  v78.toNat
def k0_off3 (d0 : Dev nD) : Fin 2 → Nat :=
  let c1_i32_72 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v97 : BitVec 32 := Scalar.subi c1_i32_72 v4
  let c4_i32_73 : BitVec 32 := 4#32
  let v98 : BitVec 32 := Scalar.muli v97 c4_i32_73
  let c64_i32_74 : BitVec 32 := 64#32
  let v99 : BitVec 32 := Scalar.muli v98 c64_i32_74
  let v100 : Index := Scalar.indexCast v99
  let c1280_75 : Index := 1280#32
  ![v100.toNat, 1280]
def k0_dev7 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_82 : BitVec 32 := 1#32
  let v106 : BitVec 32 := Scalar.muli v19 c1_i32_82
  let v107 : BitVec 32 := Scalar.addi c0_i32_83 v106
  v107.toNat
def k0_off4 (d0 : Dev nD) : Fin 2 → Nat :=
  let c1_i32_94 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v126 : BitVec 32 := Scalar.subi c1_i32_94 v4
  let c4_i32_95 : BitVec 32 := 4#32
  let v127 : BitVec 32 := Scalar.muli v126 c4_i32_95
  let c64_i32_96 : BitVec 32 := 64#32
  let v128 : BitVec 32 := Scalar.muli v127 c64_i32_96
  let v129 : Index := Scalar.indexCast v128
  let c1536_97 : Index := 1536#32
  ![v129.toNat, 1536]
def k0_dev8 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_103 : BitVec 32 := 1#32
  let v135 : BitVec 32 := Scalar.muli v19 c1_i32_103
  let v136 : BitVec 32 := Scalar.addi c0_i32_104 v135
  v136.toNat
def k0_off5 (d0 : Dev nD) : Fin 2 → Nat :=
  let c1_i32_115 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let v155 : BitVec 32 := Scalar.subi c1_i32_115 v4
  let c4_i32_116 : BitVec 32 := 4#32
  let v156 : BitVec 32 := Scalar.muli v155 c4_i32_116
  let c64_i32_117 : BitVec 32 := 64#32
  let v157 : BitVec 32 := Scalar.muli v156 c64_i32_117
  let v158 : Index := Scalar.indexCast v157
  let c1792_118 : Index := 1792#32
  ![v158.toNat, 1792]
def k0_dev9 (d0 : Dev nD) : Nat :=
  let c0_i32_126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_125 : BitVec 32 := 1#32
  let v164 : BitVec 32 := Scalar.muli v19 c1_i32_125
  let v165 : BitVec 32 := Scalar.addi c0_i32_126 v164
  v165.toNat
def k0_off6 (d0 : Dev nD) (c1_i32_138 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v184 : BitVec 32 := Scalar.addi v3 c1_i32_138
  let c4_i32_139 : BitVec 32 := 4#32
  let v185 : BitVec 32 := Scalar.remsi v184 c4_i32_139
  let c4_i32_140 : BitVec 32 := 4#32
  let c4_i32_0 : BitVec 32 := 4#32
  let v4 : BitVec 32 := Scalar.divsi v2 c4_i32_0
  let v186 : BitVec 32 := Scalar.muli c4_i32_140 v4
  let v187 : BitVec 32 := Scalar.addi v185 v186
  let c64_i32_141 : BitVec 32 := 64#32
  let v188 : BitVec 32 := Scalar.muli v187 c64_i32_141
  let v189 : Index := Scalar.indexCast v188
  let c0_142 : Index := 0#32
  ![v189.toNat, 0]
def k0_off7 (d0 : Dev nD) (c1_i32_138 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v184 : BitVec 32 := Scalar.addi v3 c1_i32_138
  let c4_i32_139 : BitVec 32 := 4#32
  let v185 : BitVec 32 := Scalar.remsi v184 c4_i32_139
  let c4_i32_149 : BitVec 32 := 4#32
  let c1_i32_148 : BitVec 32 := 1#32
  let c4_i32_0 : BitVec 32 := 4#32
  let v4 : BitVec 32 := Scalar.divsi v2 c4_i32_0
  let v195 : BitVec 32 := Scalar.subi c1_i32_148 v4
  let v196 : BitVec 32 := Scalar.muli c4_i32_149 v195
  let v197 : BitVec 32 := Scalar.addi v185 v196
  let c64_i32_150 : BitVec 32 := 64#32
  let v198 : BitVec 32 := Scalar.muli v197 c64_i32_150
  let v199 : Index := Scalar.indexCast v198
  let c0_151 : Index := 0#32
  ![v199.toNat, 0]
def k0_dev10 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_157 : BitVec 32 := 4#32
  let v205 : BitVec 32 := Scalar.muli v4 c4_i32_157
  let c4_i32 : BitVec 32 := 4#32
  let v3 : BitVec 32 := Scalar.remsi v2 c4_i32
  let c1_i32_158 : BitVec 32 := 1#32
  let v206 : BitVec 32 := Scalar.addi v3 c1_i32_158
  let c4_i32_159 : BitVec 32 := 4#32
  let v207 : BitVec 32 := Scalar.remsi v206 c4_i32_159
  let v208 : BitVec 32 := Scalar.addi v205 v207
  let c1_i32_168 : BitVec 32 := 1#32
  let v209 : BitVec 32 := Scalar.muli v208 c1_i32_168
  let v210 : BitVec 32 := Scalar.addi c0_i32_169 v209
  v210.toNat
def k0_dev11 (d0 : Dev nD) : Nat :=
  let c0_i32_207 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_195 : BitVec 32 := 4#32
  let v240 : BitVec 32 := Scalar.muli v4 c4_i32_195
  let c4_i32 : BitVec 32 := 4#32
  let v3 : BitVec 32 := Scalar.remsi v2 c4_i32
  let c2_i32_196 : BitVec 32 := 2#32
  let v241 : BitVec 32 := Scalar.addi v3 c2_i32_196
  let c4_i32_197 : BitVec 32 := 4#32
  let v242 : BitVec 32 := Scalar.remsi v241 c4_i32_197
  let v243 : BitVec 32 := Scalar.addi v240 v242
  let c1_i32_206 : BitVec 32 := 1#32
  let v244 : BitVec 32 := Scalar.muli v243 c1_i32_206
  let v245 : BitVec 32 := Scalar.addi c0_i32_207 v244
  v245.toNat
def k0_dev12 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_233 : BitVec 32 := 4#32
  let v275 : BitVec 32 := Scalar.muli v4 c4_i32_233
  let c4_i32 : BitVec 32 := 4#32
  let v3 : BitVec 32 := Scalar.remsi v2 c4_i32
  let c3_i32_234 : BitVec 32 := 3#32
  let v276 : BitVec 32 := Scalar.addi v3 c3_i32_234
  let c4_i32_235 : BitVec 32 := 4#32
  let v277 : BitVec 32 := Scalar.remsi v276 c4_i32_235
  let v278 : BitVec 32 := Scalar.addi v275 v277
  let c1_i32_244 : BitVec 32 := 1#32
  let v279 : BitVec 32 := Scalar.muli v278 c1_i32_244
  let v280 : BitVec 32 := Scalar.addi c0_i32_245 v279
  v280.toNat
def k0_off8 (d0 : Dev nD) (c1_i32_258 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v299 : BitVec 32 := Scalar.addi v3 c1_i32_258
  let c4_i32_259 : BitVec 32 := 4#32
  let v300 : BitVec 32 := Scalar.remsi v299 c4_i32_259
  let c4_i32_260 : BitVec 32 := 4#32
  let c4_i32_0 : BitVec 32 := 4#32
  let v4 : BitVec 32 := Scalar.divsi v2 c4_i32_0
  let v301 : BitVec 32 := Scalar.muli c4_i32_260 v4
  let v302 : BitVec 32 := Scalar.addi v300 v301
  let c64_i32_261 : BitVec 32 := 64#32
  let v303 : BitVec 32 := Scalar.muli v302 c64_i32_261
  let v304 : Index := Scalar.indexCast v303
  let c256_262 : Index := 256#32
  ![v304.toNat, 256]
def k0_off9 (d0 : Dev nD) (c1_i32_258 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v299 : BitVec 32 := Scalar.addi v3 c1_i32_258
  let c4_i32_259 : BitVec 32 := 4#32
  let v300 : BitVec 32 := Scalar.remsi v299 c4_i32_259
  let c4_i32_269 : BitVec 32 := 4#32
  let c1_i32_268 : BitVec 32 := 1#32
  let c4_i32_0 : BitVec 32 := 4#32
  let v4 : BitVec 32 := Scalar.divsi v2 c4_i32_0
  let v310 : BitVec 32 := Scalar.subi c1_i32_268 v4
  let v311 : BitVec 32 := Scalar.muli c4_i32_269 v310
  let v312 : BitVec 32 := Scalar.addi v300 v311
  let c64_i32_270 : BitVec 32 := 64#32
  let v313 : BitVec 32 := Scalar.muli v312 c64_i32_270
  let v314 : Index := Scalar.indexCast v313
  let c256_271 : Index := 256#32
  ![v314.toNat, 256]
def k0_dev13 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_277 : BitVec 32 := 4#32
  let v320 : BitVec 32 := Scalar.muli v4 c4_i32_277
  let c4_i32 : BitVec 32 := 4#32
  let v3 : BitVec 32 := Scalar.remsi v2 c4_i32
  let c1_i32_278 : BitVec 32 := 1#32
  let v321 : BitVec 32 := Scalar.addi v3 c1_i32_278
  let c4_i32_279 : BitVec 32 := 4#32
  let v322 : BitVec 32 := Scalar.remsi v321 c4_i32_279
  let v323 : BitVec 32 := Scalar.addi v320 v322
  let c1_i32_288 : BitVec 32 := 1#32
  let v324 : BitVec 32 := Scalar.muli v323 c1_i32_288
  let v325 : BitVec 32 := Scalar.addi c0_i32_289 v324
  v325.toNat
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_315 : BitVec 32 := 4#32
  let v355 : BitVec 32 := Scalar.muli v4 c4_i32_315
  let c4_i32 : BitVec 32 := 4#32
  let v3 : BitVec 32 := Scalar.remsi v2 c4_i32
  let c2_i32_316 : BitVec 32 := 2#32
  let v356 : BitVec 32 := Scalar.addi v3 c2_i32_316
  let c4_i32_317 : BitVec 32 := 4#32
  let v357 : BitVec 32 := Scalar.remsi v356 c4_i32_317
  let v358 : BitVec 32 := Scalar.addi v355 v357
  let c1_i32_326 : BitVec 32 := 1#32
  let v359 : BitVec 32 := Scalar.muli v358 c1_i32_326
  let v360 : BitVec 32 := Scalar.addi c0_i32_327 v359
  v360.toNat
def k0_dev15 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_353 : BitVec 32 := 4#32
  let v390 : BitVec 32 := Scalar.muli v4 c4_i32_353
  let c4_i32 : BitVec 32 := 4#32
  let v3 : BitVec 32 := Scalar.remsi v2 c4_i32
  let c3_i32_354 : BitVec 32 := 3#32
  let v391 : BitVec 32 := Scalar.addi v3 c3_i32_354
  let c4_i32_355 : BitVec 32 := 4#32
  let v392 : BitVec 32 := Scalar.remsi v391 c4_i32_355
  let v393 : BitVec 32 := Scalar.addi v390 v392
  let c1_i32_364 : BitVec 32 := 1#32
  let v394 : BitVec 32 := Scalar.muli v393 c1_i32_364
  let v395 : BitVec 32 := Scalar.addi c0_i32_365 v394
  v395.toNat
def k0_off10 (d0 : Dev nD) (c1_i32_378 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v414 : BitVec 32 := Scalar.addi v3 c1_i32_378
  let c4_i32_379 : BitVec 32 := 4#32
  let v415 : BitVec 32 := Scalar.remsi v414 c4_i32_379
  let c4_i32_380 : BitVec 32 := 4#32
  let c4_i32_0 : BitVec 32 := 4#32
  let v4 : BitVec 32 := Scalar.divsi v2 c4_i32_0
  let v416 : BitVec 32 := Scalar.muli c4_i32_380 v4
  let v417 : BitVec 32 := Scalar.addi v415 v416
  let c64_i32_381 : BitVec 32 := 64#32
  let v418 : BitVec 32 := Scalar.muli v417 c64_i32_381
  let v419 : Index := Scalar.indexCast v418
  let c512_382 : Index := 512#32
  ![v419.toNat, 512]
def k0_off11 (d0 : Dev nD) (c1_i32_378 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v414 : BitVec 32 := Scalar.addi v3 c1_i32_378
  let c4_i32_379 : BitVec 32 := 4#32
  let v415 : BitVec 32 := Scalar.remsi v414 c4_i32_379
  let c4_i32_389 : BitVec 32 := 4#32
  let c1_i32_388 : BitVec 32 := 1#32
  let c4_i32_0 : BitVec 32 := 4#32
  let v4 : BitVec 32 := Scalar.divsi v2 c4_i32_0
  let v425 : BitVec 32 := Scalar.subi c1_i32_388 v4
  let v426 : BitVec 32 := Scalar.muli c4_i32_389 v425
  let v427 : BitVec 32 := Scalar.addi v415 v426
  let c64_i32_390 : BitVec 32 := 64#32
  let v428 : BitVec 32 := Scalar.muli v427 c64_i32_390
  let v429 : Index := Scalar.indexCast v428
  let c512_391 : Index := 512#32
  ![v429.toNat, 512]
def k0_dev16 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_397 : BitVec 32 := 4#32
  let v435 : BitVec 32 := Scalar.muli v4 c4_i32_397
  let c4_i32 : BitVec 32 := 4#32
  let v3 : BitVec 32 := Scalar.remsi v2 c4_i32
  let c1_i32_398 : BitVec 32 := 1#32
  let v436 : BitVec 32 := Scalar.addi v3 c1_i32_398
  let c4_i32_399 : BitVec 32 := 4#32
  let v437 : BitVec 32 := Scalar.remsi v436 c4_i32_399
  let v438 : BitVec 32 := Scalar.addi v435 v437
  let c1_i32_408 : BitVec 32 := 1#32
  let v439 : BitVec 32 := Scalar.muli v438 c1_i32_408
  let v440 : BitVec 32 := Scalar.addi c0_i32_409 v439
  v440.toNat
def k0_dev17 (d0 : Dev nD) : Nat :=
  let c0_i32_447 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_435 : BitVec 32 := 4#32
  let v470 : BitVec 32 := Scalar.muli v4 c4_i32_435
  let c4_i32 : BitVec 32 := 4#32
  let v3 : BitVec 32 := Scalar.remsi v2 c4_i32
  let c2_i32_436 : BitVec 32 := 2#32
  let v471 : BitVec 32 := Scalar.addi v3 c2_i32_436
  let c4_i32_437 : BitVec 32 := 4#32
  let v472 : BitVec 32 := Scalar.remsi v471 c4_i32_437
  let v473 : BitVec 32 := Scalar.addi v470 v472
  let c1_i32_446 : BitVec 32 := 1#32
  let v474 : BitVec 32 := Scalar.muli v473 c1_i32_446
  let v475 : BitVec 32 := Scalar.addi c0_i32_447 v474
  v475.toNat
def k0_dev18 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_473 : BitVec 32 := 4#32
  let v505 : BitVec 32 := Scalar.muli v4 c4_i32_473
  let c4_i32 : BitVec 32 := 4#32
  let v3 : BitVec 32 := Scalar.remsi v2 c4_i32
  let c3_i32_474 : BitVec 32 := 3#32
  let v506 : BitVec 32 := Scalar.addi v3 c3_i32_474
  let c4_i32_475 : BitVec 32 := 4#32
  let v507 : BitVec 32 := Scalar.remsi v506 c4_i32_475
  let v508 : BitVec 32 := Scalar.addi v505 v507
  let c1_i32_484 : BitVec 32 := 1#32
  let v509 : BitVec 32 := Scalar.muli v508 c1_i32_484
  let v510 : BitVec 32 := Scalar.addi c0_i32_485 v509
  v510.toNat
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_540 : BitVec 32 := 4#32
  let c4_i32_0 : BitVec 32 := 4#32
  let v4 : BitVec 32 := Scalar.divsi v2 c4_i32_0
  let v543 : BitVec 32 := Scalar.muli c4_i32_540 v4
  let v544 : BitVec 32 := Scalar.addi v3 v543
  let c64_i32_541 : BitVec 32 := 64#32
  let v545 : BitVec 32 := Scalar.muli v544 c64_i32_541
  let v546 : Index := Scalar.indexCast v545
  let c0_542 : Index := 0#32
  ![v546.toNat, 0]
def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_562 : BitVec 32 := 4#32
  let c1_i32_561 : BitVec 32 := 1#32
  let c4_i32_0 : BitVec 32 := 4#32
  let v4 : BitVec 32 := Scalar.divsi v2 c4_i32_0
  let v563 : BitVec 32 := Scalar.subi c1_i32_561 v4
  let v564 : BitVec 32 := Scalar.muli c4_i32_562 v563
  let v565 : BitVec 32 := Scalar.addi v3 v564
  let c64_i32_563 : BitVec 32 := 64#32
  let v566 : BitVec 32 := Scalar.muli v565 c64_i32_563
  let v567 : Index := Scalar.indexCast v566
  let c0_564 : Index := 0#32
  ![v567.toNat, 0]
def k0_dev19 (d0 : Dev nD) : Nat :=
  let c0_i32_588 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_587 : BitVec 32 := 1#32
  let v585 : BitVec 32 := Scalar.muli v19 c1_i32_587
  let v586 : BitVec 32 := Scalar.addi c0_i32_588 v585
  v586.toNat
def k0_off14 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_641 : BitVec 32 := 4#32
  let c4_i32_0 : BitVec 32 := 4#32
  let v4 : BitVec 32 := Scalar.divsi v2 c4_i32_0
  let v619 : BitVec 32 := Scalar.muli c4_i32_641 v4
  let v620 : BitVec 32 := Scalar.addi v3 v619
  let c64_i32_642 : BitVec 32 := 64#32
  let v621 : BitVec 32 := Scalar.muli v620 c64_i32_642
  let v622 : Index := Scalar.indexCast v621
  let c256_643 : Index := 256#32
  ![v622.toNat, 256]
def k0_off15 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_663 : BitVec 32 := 4#32
  let c1_i32_662 : BitVec 32 := 1#32
  let c4_i32_0 : BitVec 32 := 4#32
  let v4 : BitVec 32 := Scalar.divsi v2 c4_i32_0
  let v639 : BitVec 32 := Scalar.subi c1_i32_662 v4
  let v640 : BitVec 32 := Scalar.muli c4_i32_663 v639
  let v641 : BitVec 32 := Scalar.addi v3 v640
  let c64_i32_664 : BitVec 32 := 64#32
  let v642 : BitVec 32 := Scalar.muli v641 c64_i32_664
  let v643 : Index := Scalar.indexCast v642
  let c256_665 : Index := 256#32
  ![v643.toNat, 256]
def k0_dev20 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_688 : BitVec 32 := 1#32
  let v661 : BitVec 32 := Scalar.muli v19 c1_i32_688
  let v662 : BitVec 32 := Scalar.addi c0_i32_689 v661
  v662.toNat
def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_742 : BitVec 32 := 4#32
  let c4_i32_0 : BitVec 32 := 4#32
  let v4 : BitVec 32 := Scalar.divsi v2 c4_i32_0
  let v695 : BitVec 32 := Scalar.muli c4_i32_742 v4
  let v696 : BitVec 32 := Scalar.addi v3 v695
  let c64_i32_743 : BitVec 32 := 64#32
  let v697 : BitVec 32 := Scalar.muli v696 c64_i32_743
  let v698 : Index := Scalar.indexCast v697
  let c512_744 : Index := 512#32
  ![v698.toNat, 512]
def k0_off17 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c4_i32_764 : BitVec 32 := 4#32
  let c1_i32_763 : BitVec 32 := 1#32
  let c4_i32_0 : BitVec 32 := 4#32
  let v4 : BitVec 32 := Scalar.divsi v2 c4_i32_0
  let v715 : BitVec 32 := Scalar.subi c1_i32_763 v4
  let v716 : BitVec 32 := Scalar.muli c4_i32_764 v715
  let v717 : BitVec 32 := Scalar.addi v3 v716
  let c64_i32_765 : BitVec 32 := 64#32
  let v718 : BitVec 32 := Scalar.muli v717 c64_i32_765
  let v719 : Index := Scalar.indexCast v718
  let c512_766 : Index := 512#32
  ![v719.toNat, 512]
def k0_dev21 (d0 : Dev nD) : Nat :=
  let c0_i32_790 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_10 : BitVec 32 := 4#32
  let v18 : BitVec 32 := Scalar.addi v2 c4_i32_10
  let c8_i32_11 : BitVec 32 := 8#32
  let v19 : BitVec 32 := Scalar.remsi v18 c8_i32_11
  let c1_i32_789 : BitVec 32 := 1#32
  let v737 : BitVec 32 := Scalar.muli v19 c1_i32_789
  let v738 : BitVec 32 := Scalar.addi c0_i32_790 v737
  v738.toNat
def k0_off18 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_808 : BitVec 32 := 4#32
  let v758 : BitVec 32 := Scalar.muli v4 c4_i32_808
  let c64_i32_809 : BitVec 32 := 64#32
  let v759 : BitVec 32 := Scalar.muli v758 c64_i32_809
  let v760 : Index := Scalar.indexCast v759
  let c768_810 : Index := 768#32
  ![v760.toNat, 768]
def k0_off19 (d0 : Dev nD) (c1_i32_814 : BitVec 32) : Fin 3 → Nat :=
  let c0_817 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v766 : BitVec 32 := Scalar.addi v3 c1_i32_814
  let c4_i32_815 : BitVec 32 := 4#32
  let v767 : BitVec 32 := Scalar.remsi v766 c4_i32_815
  let c64_i32_816 : BitVec 32 := 64#32
  let v768 : BitVec 32 := Scalar.muli v767 c64_i32_816
  let v769 : Index := Scalar.indexCast v768
  let c0_818 : Index := 0#32
  ![0, v769.toNat, 0]
def k0_dev22 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_823 : BitVec 32 := 4#32
  let v776 : BitVec 32 := Scalar.muli v4 c4_i32_823
  let c4_i32 : BitVec 32 := 4#32
  let v3 : BitVec 32 := Scalar.remsi v2 c4_i32
  let c1_i32_824 : BitVec 32 := 1#32
  let v777 : BitVec 32 := Scalar.addi v3 c1_i32_824
  let c4_i32_825 : BitVec 32 := 4#32
  let v778 : BitVec 32 := Scalar.remsi v777 c4_i32_825
  let v779 : BitVec 32 := Scalar.addi v776 v778
  let c1_i32_834 : BitVec 32 := 1#32
  let v780 : BitVec 32 := Scalar.muli v779 c1_i32_834
  let v781 : BitVec 32 := Scalar.addi c0_i32_835 v780
  v781.toNat
def k0_dev23 (d0 : Dev nD) : Nat :=
  let c0_i32_861 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_849 : BitVec 32 := 4#32
  let v800 : BitVec 32 := Scalar.muli v4 c4_i32_849
  let c4_i32 : BitVec 32 := 4#32
  let v3 : BitVec 32 := Scalar.remsi v2 c4_i32
  let c2_i32_850 : BitVec 32 := 2#32
  let v801 : BitVec 32 := Scalar.addi v3 c2_i32_850
  let c4_i32_851 : BitVec 32 := 4#32
  let v802 : BitVec 32 := Scalar.remsi v801 c4_i32_851
  let v803 : BitVec 32 := Scalar.addi v800 v802
  let c1_i32_860 : BitVec 32 := 1#32
  let v804 : BitVec 32 := Scalar.muli v803 c1_i32_860
  let v805 : BitVec 32 := Scalar.addi c0_i32_861 v804
  v805.toNat
def k0_dev24 (d0 : Dev nD) : Nat :=
  let c0_i32_887 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_875 : BitVec 32 := 4#32
  let v824 : BitVec 32 := Scalar.muli v4 c4_i32_875
  let c4_i32 : BitVec 32 := 4#32
  let v3 : BitVec 32 := Scalar.remsi v2 c4_i32
  let c3_i32_876 : BitVec 32 := 3#32
  let v825 : BitVec 32 := Scalar.addi v3 c3_i32_876
  let c4_i32_877 : BitVec 32 := 4#32
  let v826 : BitVec 32 := Scalar.remsi v825 c4_i32_877
  let v827 : BitVec 32 := Scalar.addi v824 v826
  let c1_i32_886 : BitVec 32 := 1#32
  let v828 : BitVec 32 := Scalar.muli v827 c1_i32_886
  let v829 : BitVec 32 := Scalar.addi c0_i32_887 v828
  v829.toNat
def k0_off20 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_905 : BitVec 32 := 4#32
  let v849 : BitVec 32 := Scalar.muli v4 c4_i32_905
  let c64_i32_906 : BitVec 32 := 64#32
  let v850 : BitVec 32 := Scalar.muli v849 c64_i32_906
  let v851 : Index := Scalar.indexCast v850
  let c1024_907 : Index := 1024#32
  ![v851.toNat, 1024]
def k0_off21 (d0 : Dev nD) (c1_i32_911 : BitVec 32) : Fin 3 → Nat :=
  let c1_914 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v857 : BitVec 32 := Scalar.addi v3 c1_i32_911
  let c4_i32_912 : BitVec 32 := 4#32
  let v858 : BitVec 32 := Scalar.remsi v857 c4_i32_912
  let c64_i32_913 : BitVec 32 := 64#32
  let v859 : BitVec 32 := Scalar.muli v858 c64_i32_913
  let v860 : Index := Scalar.indexCast v859
  let c0_915 : Index := 0#32
  ![1, v860.toNat, 0]
def k0_dev25 (d0 : Dev nD) : Nat :=
  let c0_i32_932 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_920 : BitVec 32 := 4#32
  let v867 : BitVec 32 := Scalar.muli v4 c4_i32_920
  let c4_i32 : BitVec 32 := 4#32
  let v3 : BitVec 32 := Scalar.remsi v2 c4_i32
  let c1_i32_921 : BitVec 32 := 1#32
  let v868 : BitVec 32 := Scalar.addi v3 c1_i32_921
  let c4_i32_922 : BitVec 32 := 4#32
  let v869 : BitVec 32 := Scalar.remsi v868 c4_i32_922
  let v870 : BitVec 32 := Scalar.addi v867 v869
  let c1_i32_931 : BitVec 32 := 1#32
  let v871 : BitVec 32 := Scalar.muli v870 c1_i32_931
  let v872 : BitVec 32 := Scalar.addi c0_i32_932 v871
  v872.toNat
def k0_dev26 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_946 : BitVec 32 := 4#32
  let v891 : BitVec 32 := Scalar.muli v4 c4_i32_946
  let c4_i32 : BitVec 32 := 4#32
  let v3 : BitVec 32 := Scalar.remsi v2 c4_i32
  let c2_i32_947 : BitVec 32 := 2#32
  let v892 : BitVec 32 := Scalar.addi v3 c2_i32_947
  let c4_i32_948 : BitVec 32 := 4#32
  let v893 : BitVec 32 := Scalar.remsi v892 c4_i32_948
  let v894 : BitVec 32 := Scalar.addi v891 v893
  let c1_i32_957 : BitVec 32 := 1#32
  let v895 : BitVec 32 := Scalar.muli v894 c1_i32_957
  let v896 : BitVec 32 := Scalar.addi c0_i32_958 v895
  v896.toNat
def k0_dev27 (d0 : Dev nD) : Nat :=
  let c0_i32_984 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_972 : BitVec 32 := 4#32
  let v915 : BitVec 32 := Scalar.muli v4 c4_i32_972
  let c4_i32 : BitVec 32 := 4#32
  let v3 : BitVec 32 := Scalar.remsi v2 c4_i32
  let c3_i32_973 : BitVec 32 := 3#32
  let v916 : BitVec 32 := Scalar.addi v3 c3_i32_973
  let c4_i32_974 : BitVec 32 := 4#32
  let v917 : BitVec 32 := Scalar.remsi v916 c4_i32_974
  let v918 : BitVec 32 := Scalar.addi v915 v917
  let c1_i32_983 : BitVec 32 := 1#32
  let v919 : BitVec 32 := Scalar.muli v918 c1_i32_983
  let v920 : BitVec 32 := Scalar.addi c0_i32_984 v919
  v920.toNat
def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1002 : BitVec 32 := 4#32
  let v940 : BitVec 32 := Scalar.muli v4 c4_i32_1002
  let c64_i32_1003 : BitVec 32 := 64#32
  let v941 : BitVec 32 := Scalar.muli v940 c64_i32_1003
  let v942 : Index := Scalar.indexCast v941
  let c1280_1004 : Index := 1280#32
  ![v942.toNat, 1280]
def k0_off23 (d0 : Dev nD) (c1_i32_1008 : BitVec 32) : Fin 3 → Nat :=
  let c2_1011 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v948 : BitVec 32 := Scalar.addi v3 c1_i32_1008
  let c4_i32_1009 : BitVec 32 := 4#32
  let v949 : BitVec 32 := Scalar.remsi v948 c4_i32_1009
  let c64_i32_1010 : BitVec 32 := 64#32
  let v950 : BitVec 32 := Scalar.muli v949 c64_i32_1010
  let v951 : Index := Scalar.indexCast v950
  let c0_1012 : Index := 0#32
  ![2, v951.toNat, 0]
def k0_dev28 (d0 : Dev nD) : Nat :=
  let c0_i32_1029 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1017 : BitVec 32 := 4#32
  let v958 : BitVec 32 := Scalar.muli v4 c4_i32_1017
  let c4_i32 : BitVec 32 := 4#32
  let v3 : BitVec 32 := Scalar.remsi v2 c4_i32
  let c1_i32_1018 : BitVec 32 := 1#32
  let v959 : BitVec 32 := Scalar.addi v3 c1_i32_1018
  let c4_i32_1019 : BitVec 32 := 4#32
  let v960 : BitVec 32 := Scalar.remsi v959 c4_i32_1019
  let v961 : BitVec 32 := Scalar.addi v958 v960
  let c1_i32_1028 : BitVec 32 := 1#32
  let v962 : BitVec 32 := Scalar.muli v961 c1_i32_1028
  let v963 : BitVec 32 := Scalar.addi c0_i32_1029 v962
  v963.toNat
def k0_dev29 (d0 : Dev nD) : Nat :=
  let c0_i32_1055 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1043 : BitVec 32 := 4#32
  let v982 : BitVec 32 := Scalar.muli v4 c4_i32_1043
  let c4_i32 : BitVec 32 := 4#32
  let v3 : BitVec 32 := Scalar.remsi v2 c4_i32
  let c2_i32_1044 : BitVec 32 := 2#32
  let v983 : BitVec 32 := Scalar.addi v3 c2_i32_1044
  let c4_i32_1045 : BitVec 32 := 4#32
  let v984 : BitVec 32 := Scalar.remsi v983 c4_i32_1045
  let v985 : BitVec 32 := Scalar.addi v982 v984
  let c1_i32_1054 : BitVec 32 := 1#32
  let v986 : BitVec 32 := Scalar.muli v985 c1_i32_1054
  let v987 : BitVec 32 := Scalar.addi c0_i32_1055 v986
  v987.toNat
def k0_dev30 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1069 : BitVec 32 := 4#32
  let v1006 : BitVec 32 := Scalar.muli v4 c4_i32_1069
  let c4_i32 : BitVec 32 := 4#32
  let v3 : BitVec 32 := Scalar.remsi v2 c4_i32
  let c3_i32_1070 : BitVec 32 := 3#32
  let v1007 : BitVec 32 := Scalar.addi v3 c3_i32_1070
  let c4_i32_1071 : BitVec 32 := 4#32
  let v1008 : BitVec 32 := Scalar.remsi v1007 c4_i32_1071
  let v1009 : BitVec 32 := Scalar.addi v1006 v1008
  let c1_i32_1080 : BitVec 32 := 1#32
  let v1010 : BitVec 32 := Scalar.muli v1009 c1_i32_1080
  let v1011 : BitVec 32 := Scalar.addi c0_i32_1081 v1010
  v1011.toNat
def k0_off24 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1099 : BitVec 32 := 4#32
  let v1031 : BitVec 32 := Scalar.muli v4 c4_i32_1099
  let c64_i32_1100 : BitVec 32 := 64#32
  let v1032 : BitVec 32 := Scalar.muli v1031 c64_i32_1100
  let v1033 : Index := Scalar.indexCast v1032
  let c1536_1101 : Index := 1536#32
  ![v1033.toNat, 1536]
def k0_off25 (d0 : Dev nD) (c1_i32_1105 : BitVec 32) : Fin 3 → Nat :=
  let c3_1108 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v1039 : BitVec 32 := Scalar.addi v3 c1_i32_1105
  let c4_i32_1106 : BitVec 32 := 4#32
  let v1040 : BitVec 32 := Scalar.remsi v1039 c4_i32_1106
  let c64_i32_1107 : BitVec 32 := 64#32
  let v1041 : BitVec 32 := Scalar.muli v1040 c64_i32_1107
  let v1042 : Index := Scalar.indexCast v1041
  let c0_1109 : Index := 0#32
  ![3, v1042.toNat, 0]
def k0_dev31 (d0 : Dev nD) : Nat :=
  let c0_i32_1126 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1114 : BitVec 32 := 4#32
  let v1049 : BitVec 32 := Scalar.muli v4 c4_i32_1114
  let c4_i32 : BitVec 32 := 4#32
  let v3 : BitVec 32 := Scalar.remsi v2 c4_i32
  let c1_i32_1115 : BitVec 32 := 1#32
  let v1050 : BitVec 32 := Scalar.addi v3 c1_i32_1115
  let c4_i32_1116 : BitVec 32 := 4#32
  let v1051 : BitVec 32 := Scalar.remsi v1050 c4_i32_1116
  let v1052 : BitVec 32 := Scalar.addi v1049 v1051
  let c1_i32_1125 : BitVec 32 := 1#32
  let v1053 : BitVec 32 := Scalar.muli v1052 c1_i32_1125
  let v1054 : BitVec 32 := Scalar.addi c0_i32_1126 v1053
  v1054.toNat
def k0_dev32 (d0 : Dev nD) : Nat :=
  let c0_i32_1152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1140 : BitVec 32 := 4#32
  let v1073 : BitVec 32 := Scalar.muli v4 c4_i32_1140
  let c4_i32 : BitVec 32 := 4#32
  let v3 : BitVec 32 := Scalar.remsi v2 c4_i32
  let c2_i32_1141 : BitVec 32 := 2#32
  let v1074 : BitVec 32 := Scalar.addi v3 c2_i32_1141
  let c4_i32_1142 : BitVec 32 := 4#32
  let v1075 : BitVec 32 := Scalar.remsi v1074 c4_i32_1142
  let v1076 : BitVec 32 := Scalar.addi v1073 v1075
  let c1_i32_1151 : BitVec 32 := 1#32
  let v1077 : BitVec 32 := Scalar.muli v1076 c1_i32_1151
  let v1078 : BitVec 32 := Scalar.addi c0_i32_1152 v1077
  v1078.toNat
def k0_dev33 (d0 : Dev nD) : Nat :=
  let c0_i32_1178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1166 : BitVec 32 := 4#32
  let v1097 : BitVec 32 := Scalar.muli v4 c4_i32_1166
  let c4_i32 : BitVec 32 := 4#32
  let v3 : BitVec 32 := Scalar.remsi v2 c4_i32
  let c3_i32_1167 : BitVec 32 := 3#32
  let v1098 : BitVec 32 := Scalar.addi v3 c3_i32_1167
  let c4_i32_1168 : BitVec 32 := 4#32
  let v1099 : BitVec 32 := Scalar.remsi v1098 c4_i32_1168
  let v1100 : BitVec 32 := Scalar.addi v1097 v1099
  let c1_i32_1177 : BitVec 32 := 1#32
  let v1101 : BitVec 32 := Scalar.muli v1100 c1_i32_1177
  let v1102 : BitVec 32 := Scalar.addi c0_i32_1178 v1101
  v1102.toNat
def k0_off26 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1196 : BitVec 32 := 4#32
  let v1122 : BitVec 32 := Scalar.muli v4 c4_i32_1196
  let c64_i32_1197 : BitVec 32 := 64#32
  let v1123 : BitVec 32 := Scalar.muli v1122 c64_i32_1197
  let v1124 : Index := Scalar.indexCast v1123
  let c1792_1198 : Index := 1792#32
  ![v1124.toNat, 1792]
def k0_off27 (d0 : Dev nD) (c1_i32_1202 : BitVec 32) : Fin 3 → Nat :=
  let c4_1205 : Index := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let v1130 : BitVec 32 := Scalar.addi v3 c1_i32_1202
  let c4_i32_1203 : BitVec 32 := 4#32
  let v1131 : BitVec 32 := Scalar.remsi v1130 c4_i32_1203
  let c64_i32_1204 : BitVec 32 := 64#32
  let v1132 : BitVec 32 := Scalar.muli v1131 c64_i32_1204
  let v1133 : Index := Scalar.indexCast v1132
  let c0_1206 : Index := 0#32
  ![4, v1133.toNat, 0]
def k0_dev34 (d0 : Dev nD) : Nat :=
  let c0_i32_1223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1211 : BitVec 32 := 4#32
  let v1140 : BitVec 32 := Scalar.muli v4 c4_i32_1211
  let c4_i32 : BitVec 32 := 4#32
  let v3 : BitVec 32 := Scalar.remsi v2 c4_i32
  let c1_i32_1212 : BitVec 32 := 1#32
  let v1141 : BitVec 32 := Scalar.addi v3 c1_i32_1212
  let c4_i32_1213 : BitVec 32 := 4#32
  let v1142 : BitVec 32 := Scalar.remsi v1141 c4_i32_1213
  let v1143 : BitVec 32 := Scalar.addi v1140 v1142
  let c1_i32_1222 : BitVec 32 := 1#32
  let v1144 : BitVec 32 := Scalar.muli v1143 c1_i32_1222
  let v1145 : BitVec 32 := Scalar.addi c0_i32_1223 v1144
  v1145.toNat
def k0_dev35 (d0 : Dev nD) : Nat :=
  let c0_i32_1249 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1237 : BitVec 32 := 4#32
  let v1164 : BitVec 32 := Scalar.muli v4 c4_i32_1237
  let c4_i32 : BitVec 32 := 4#32
  let v3 : BitVec 32 := Scalar.remsi v2 c4_i32
  let c2_i32_1238 : BitVec 32 := 2#32
  let v1165 : BitVec 32 := Scalar.addi v3 c2_i32_1238
  let c4_i32_1239 : BitVec 32 := 4#32
  let v1166 : BitVec 32 := Scalar.remsi v1165 c4_i32_1239
  let v1167 : BitVec 32 := Scalar.addi v1164 v1166
  let c1_i32_1248 : BitVec 32 := 1#32
  let v1168 : BitVec 32 := Scalar.muli v1167 c1_i32_1248
  let v1169 : BitVec 32 := Scalar.addi c0_i32_1249 v1168
  v1169.toNat
def k0_dev36 (d0 : Dev nD) : Nat :=
  let c0_i32_1275 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_0 : BitVec 32 := 4#32
  let v4 : BitVec 32 := Scalar.divsi v2 c4_i32_0
  let c4_i32_1263 : BitVec 32 := 4#32
  let v1188 : BitVec 32 := Scalar.muli v4 c4_i32_1263
  let c4_i32 : BitVec 32 := 4#32
  let v3 : BitVec 32 := Scalar.remsi v2 c4_i32
  let c3_i32_1264 : BitVec 32 := 3#32
  let v1189 : BitVec 32 := Scalar.addi v3 c3_i32_1264
  let c4_i32_1265 : BitVec 32 := 4#32
  let v1190 : BitVec 32 := Scalar.remsi v1189 c4_i32_1265
  let v1191 : BitVec 32 := Scalar.addi v1188 v1190
  let c1_i32_1274 : BitVec 32 := 1#32
  let v1192 : BitVec 32 := Scalar.muli v1191 c1_i32_1274
  let v1193 : BitVec 32 := Scalar.addi c0_i32_1275 v1192
  v1193.toNat
def k0_off28 (d0 : Dev nD) : Fin 3 → Nat :=
  let c0_1377 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c64_i32_1376 : BitVec 32 := 64#32
  let v1271 : BitVec 32 := Scalar.muli v3 c64_i32_1376
  let v1272 : Index := Scalar.indexCast v1271
  let c0_1378 : Index := 0#32
  ![0, v1272.toNat, 0]
def k0_off29 (d0 : Dev nD) : Fin 3 → Nat :=
  let c1_1436 : Index := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c64_i32_1435 : BitVec 32 := 64#32
  let v1312 : BitVec 32 := Scalar.muli v3 c64_i32_1435
  let v1313 : Index := Scalar.indexCast v1312
  let c0_1437 : Index := 0#32
  ![1, v1313.toNat, 0]
def k0_off30 (d0 : Dev nD) : Fin 3 → Nat :=
  let c2_1495 : Index := 2#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c64_i32_1494 : BitVec 32 := 64#32
  let v1353 : BitVec 32 := Scalar.muli v3 c64_i32_1494
  let v1354 : Index := Scalar.indexCast v1353
  let c0_1496 : Index := 0#32
  ![2, v1354.toNat, 0]
def k0_off31 (d0 : Dev nD) : Fin 3 → Nat :=
  let c3_1554 : Index := 3#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c64_i32_1553 : BitVec 32 := 64#32
  let v1394 : BitVec 32 := Scalar.muli v3 c64_i32_1553
  let v1395 : Index := Scalar.indexCast v1394
  let c0_1555 : Index := 0#32
  ![3, v1395.toNat, 0]
def k0_off32 (d0 : Dev nD) : Fin 3 → Nat :=
  let c4_1613 : Index := 4#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c64_i32_1612 : BitVec 32 := 64#32
  let v1435 : BitVec 32 := Scalar.muli v3 c64_i32_1612
  let v1436 : Index := Scalar.indexCast v1435
  let c0_1614 : Index := 0#32
  ![4, v1436.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x512 : Shape := ⟨2, ![4096, 512]⟩
abbrev S4096x2048 : Shape := ⟨2, ![4096, 2048]⟩
abbrev S512x4096 : Shape := ⟨2, ![512, 4096]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x2048, .f32⟩
  | .hbm, ⟨2, _⟩ => ⟨S512x4096, .f32⟩
  | .hbm, ⟨3, _⟩ => ⟨S512x2048, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Steps.lean ====
/-
The kernel's body as a composition of a few indexed steps.

The printed body is one long list of operations. It is the same five steps over and over: a block
product into the accumulator, and for each of four families of copies the filling of a slot and the copy
of it. Here each step is written once, over the index of its block or slot, and the body is shown to be
their composition (`body_eq`).
-/
module

public import proofs.«01_k».proof.Proof.Gen.KernelIdeal.Skeleton
public import proofs.«01_k».proof.Proof.Gen.KernelIdeal.Frame
public import Idealize.ShloMosaic.Lib.Rounds
public import Idealize.ShloMosaic.Lib.Tactic

@[expose] public section

noncomputable section

namespace Cert.Dot

open Cert.KernelIdeal Cert.KernelIdeal.Gen
open Idealize.ShloMosaic Idealize.ShloMosaic.TcCoe
open Idealize.SL Idealize.SL.Sem

variable {F : FTy → Type} [FloatOps F]

/-- Programs of one TensorCore. -/
abbrev P (F : FTy → Type) [FloatOps F] (α : Type) : Type 1 := Prog (TpuEff nD τ sig (Elt F) Λ₀ .tc) α

/-! ## The buffers -/

abbrev xM : Memref sig .tc .vmem S512x512 .f32 := Memref.whole cc0_stg0_0
abbrev dyM : Memref sig .tc .vmem S512x2048 .f32 := Memref.whole cc0_stg1_0
abbrev outM : Memref sig .tc .vmem S64x2048 .f32 := Memref.whole cc0_stg2_0
abbrev accM : Memref sig .tc .vmem S512x2048 .f32 := Memref.whole cc0_scratch0
abbrev abufM : Memref sig .tc .vmem S3x3x2x64x256 .bf16 := Memref.whole cc0_scratch1
abbrev arecvM : Memref sig .tc .vmem S3x3x2x64x256 .bf16 := Memref.whole cc0_scratch2
abbrev asumM : Memref sig .tc .vmem S3x64x256 .f32 := Memref.whole cc0_scratch3
abbrev azsM : Memref sig .tc .vmem S3x64x256 .bf16 := Memref.whole cc0_scratch4
abbrev azrM : Memref sig .tc .vmem S3x64x256 .bf16 := Memref.whole cc0_scratch5
abbrev zbsM : Memref sig .tc .vmem S5x256x256 .bf16 := Memref.whole cc0_scratch6
abbrev zbrM : Memref sig .tc .vmem S5x256x256 .bf16 := Memref.whole cc0_scratch7
abbrev pairM : Memref sig .tc .vmem S5x256x256 .f32 := Memref.whole cc0_scratch8
abbrev bbufM : Memref sig .tc .vmem S5x3x64x256 .bf16 := Memref.whole cc0_scratch9
abbrev brecvM : Memref sig .tc .vmem S5x3x64x256 .bf16 := Memref.whole cc0_scratch10

/-! ## The offsets the body computes from its device -/

/-- Where in the accumulator the half that leaves for the other plane starts. -/
def zbOff (bi : Fin 5) (c : Dev nD) : Fin 2 → ℕ :=
  match bi with
  | 0 => k0_off1 c | 1 => k0_off2 c | 2 => k0_off3 c | 3 => k0_off4 c | 4 => k0_off5 c
/-- Where the half that stays starts. -/
def keepOff (bi : Fin 5) (c : Dev nD) : Fin 2 → ℕ :=
  match bi with
  | 0 => k0_off18 c | 1 => k0_off20 c | 2 => k0_off22 c | 3 => k0_off24 c | 4 => k0_off26 c
/-- Where the block for the plane peer at distance `o + 1` starts: its own (`h = 0`), that of its mate in the other
    plane (`h = 1`). -/
def aOff (ai : Fin 3) (h : Fin 2) (o : Fin 3) (c : Dev nD) : Fin 2 → ℕ :=
  match ai, h with
  | 0, 0 => k0_off6 c (BitVec.ofNat 32 (1 + o.val)) | 0, 1 => k0_off7 c (BitVec.ofNat 32 (1 + o.val))
  | 1, 0 => k0_off8 c (BitVec.ofNat 32 (1 + o.val)) | 1, 1 => k0_off9 c (BitVec.ofNat 32 (1 + o.val))
  | 2, 0 => k0_off10 c (BitVec.ofNat 32 (1 + o.val)) | 2, 1 => k0_off11 c (BitVec.ofNat 32 (1 + o.val))
/-- Where the device's own block (`h = 0`) and its mate's (`h = 1`) start. -/
def myOff (ai : Fin 3) (h : Fin 2) (c : Dev nD) : Fin 2 → ℕ :=
  match ai, h with
  | 0, 0 => k0_off12 c | 0, 1 => k0_off13 c
  | 1, 0 => k0_off14 c | 1, 1 => k0_off15 c
  | 2, 0 => k0_off16 c | 2, 1 => k0_off17 c
/-- Where in the pair sums the block for the plane peer at distance `o + 1` starts. -/
def bOff (bi : Fin 5) (o : Fin 3) (c : Dev nD) : Fin 3 → ℕ :=
  match bi with
  | 0 => k0_off19 c (BitVec.ofNat 32 (1 + o.val)) | 1 => k0_off21 c (BitVec.ofNat 32 (1 + o.val))
  | 2 => k0_off23 c (BitVec.ofNat 32 (1 + o.val)) | 3 => k0_off25 c (BitVec.ofNat 32 (1 + o.val))
  | 4 => k0_off27 c (BitVec.ofNat 32 (1 + o.val))
/-- Where in the pair sums the device's own block starts. -/
def ownOff (bi : Fin 5) (c : Dev nD) : Fin 3 → ℕ :=
  match bi with
  | 0 => k0_off28 c | 1 => k0_off29 c | 2 => k0_off30 c | 3 => k0_off31 c | 4 => k0_off32 c

theorem zbOff_eq (bi : Fin 5) (c : Dev nD) : zbOff bi c = ![256 - 256 * (c.val / 4), 768 + 256 * bi.val] := by
  fin_cases bi
  exacts [k0_off1_eq c, k0_off2_eq c, k0_off3_eq c, k0_off4_eq c, k0_off5_eq c]
theorem keepOff_eq (bi : Fin 5) (c : Dev nD) : keepOff bi c = ![256 * (c.val / 4), 768 + 256 * bi.val] := by
  fin_cases bi
  exacts [k0_off18_eq c, k0_off20_eq c, k0_off22_eq c, k0_off24_eq c, k0_off26_eq c]
theorem aOff_eq (ai : Fin 3) (h : Fin 2) (o : Fin 3) (c : Dev nD) :
    aOff ai h o c = ![64 * ((c.val % 4 + o.val + 1) % 4) + (if h = 0 then 256 * (c.val / 4) else 256 - 256 * (c.val / 4)), 256 * ai.val] := by
  have hc : 256 * (c.val / 4) ≤ 256 := by have := c.isLt; simp only [nD] at this; omega
  fin_cases ai <;> fin_cases h
  · exact (k0_off6_eq c o)
  · exact (k0_off7_eq c o).trans (congrArg (fun n => ![n, _]) (Nat.add_sub_assoc hc _))
  · exact (k0_off8_eq c o)
  · exact (k0_off9_eq c o).trans (congrArg (fun n => ![n, _]) (Nat.add_sub_assoc hc _))
  · exact (k0_off10_eq c o)
  · exact (k0_off11_eq c o).trans (congrArg (fun n => ![n, _]) (Nat.add_sub_assoc hc _))
theorem myOff_eq (ai : Fin 3) (h : Fin 2) (c : Dev nD) :
    myOff ai h c = ![64 * (c.val % 4) + (if h = 0 then 256 * (c.val / 4) else 256 - 256 * (c.val / 4)), 256 * ai.val] := by
  have hc : 256 * (c.val / 4) ≤ 256 := by have := c.isLt; simp only [nD] at this; omega
  fin_cases ai <;> fin_cases h
  · exact (k0_off12_eq c)
  · exact (k0_off13_eq c).trans (congrArg (fun n => ![n, _]) (Nat.add_sub_assoc hc _))
  · exact (k0_off14_eq c)
  · exact (k0_off15_eq c).trans (congrArg (fun n => ![n, _]) (Nat.add_sub_assoc hc _))
  · exact (k0_off16_eq c)
  · exact (k0_off17_eq c).trans (congrArg (fun n => ![n, _]) (Nat.add_sub_assoc hc _))
theorem bOff_eq (bi : Fin 5) (o : Fin 3) (c : Dev nD) : bOff bi o c = ![bi.val, 64 * ((c.val % 4 + o.val + 1) % 4), 0] := by
  fin_cases bi
  exacts [k0_off19_eq c o, k0_off21_eq c o, k0_off23_eq c o, k0_off25_eq c o, k0_off27_eq c o]
theorem ownOff_eq (bi : Fin 5) (c : Dev nD) : ownOff bi c = ![bi.val, 64 * (c.val % 4), 0] := by
  fin_cases bi
  exacts [k0_off28_eq c, k0_off29_eq c, k0_off30_eq c, k0_off31_eq c, k0_off32_eq c]

theorem zbOff_inb (bi : Fin 5) (c : Dev nD) : ∀ a, zbOff bi c a + S256x256.size a ≤ S512x2048.size a := by
  fin_cases bi
  exacts [k0_off1_inb c, k0_off2_inb c, k0_off3_inb c, k0_off4_inb c, k0_off5_inb c]
theorem keepOff_inb (bi : Fin 5) (c : Dev nD) : ∀ a, keepOff bi c a + S256x256.size a ≤ S512x2048.size a := by
  fin_cases bi
  exacts [k0_off18_inb c, k0_off20_inb c, k0_off22_inb c, k0_off24_inb c, k0_off26_inb c]
theorem aOff_inb (ai : Fin 3) (h : Fin 2) (o : Fin 3) (c : Dev nD) : ∀ a, aOff ai h o c a + S64x256.size a ≤ S512x2048.size a := by
  fin_cases ai <;> fin_cases h
  exacts [k0_off6_inb c o, k0_off7_inb c o, k0_off8_inb c o, k0_off9_inb c o, k0_off10_inb c o, k0_off11_inb c o]
theorem myOff_inb (ai : Fin 3) (h : Fin 2) (c : Dev nD) : ∀ a, myOff ai h c a + S64x256.size a ≤ S512x2048.size a := by
  fin_cases ai <;> fin_cases h
  exacts [k0_off12_inb c, k0_off13_inb c, k0_off14_inb c, k0_off15_inb c, k0_off16_inb c, k0_off17_inb c]
theorem bOff_inb (bi : Fin 5) (o : Fin 3) (c : Dev nD) : ∀ a, bOff bi o c a + S1x64x256.size a ≤ S5x256x256.size a := by
  fin_cases bi
  exacts [k0_off19_inb c o, k0_off21_inb c o, k0_off23_inb c o, k0_off25_inb c o, k0_off27_inb c o]
theorem ownOff_inb (bi : Fin 5) (c : Dev nD) : ∀ a, ownOff bi c a + S1x64x256.size a ≤ S5x256x256.size a := by
  fin_cases bi
  exacts [k0_off28_inb c, k0_off29_inb c, k0_off30_inb c, k0_off31_inb c, k0_off32_inb c]

/-! ## The devices the body addresses -/

/-- The device at position `k` of the peers of `c`: its mate in the other plane for `k = 0`, the plane peer at
    distance `k` otherwise. -/
def tgt (c : Dev nD) (k : Fin 4) : Dev nD :=
  ⟨if k = 0 then (c.val + 4) % 8 else 4 * (c.val / 4) + (c.val % 4 + k.val) % 4, by revert c k; decide⟩

/-- The device the body signals in its `k`-th signal. -/
def sigDev (k : Fin 4) (c : Dev nD) : Dev nD :=
  match k with
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
/-- Where the copy of half block `bi` goes. -/
def zbDev (bi : Fin 5) (c : Dev nD) : Dev nD :=
  match bi with
  | 0 => ⟨k0_dev5 c, k0_dev5_lt c⟩ | 1 => ⟨k0_dev6 c, k0_dev6_lt c⟩ | 2 => ⟨k0_dev7 c, k0_dev7_lt c⟩
  | 3 => ⟨k0_dev8 c, k0_dev8_lt c⟩ | 4 => ⟨k0_dev9 c, k0_dev9_lt c⟩
/-- Where the copy of the block pair `(ai, o)` goes. -/
def aDev (ai o : Fin 3) (c : Dev nD) : Dev nD :=
  match ai, o with
  | 0, 0 => ⟨k0_dev10 c, k0_dev10_lt c⟩ | 0, 1 => ⟨k0_dev11 c, k0_dev11_lt c⟩ | 0, 2 => ⟨k0_dev12 c, k0_dev12_lt c⟩
  | 1, 0 => ⟨k0_dev13 c, k0_dev13_lt c⟩ | 1, 1 => ⟨k0_dev14 c, k0_dev14_lt c⟩ | 1, 2 => ⟨k0_dev15 c, k0_dev15_lt c⟩
  | 2, 0 => ⟨k0_dev16 c, k0_dev16_lt c⟩ | 2, 1 => ⟨k0_dev17 c, k0_dev17_lt c⟩ | 2, 2 => ⟨k0_dev18 c, k0_dev18_lt c⟩
/-- Where the copy of the plane sum `ai` goes. -/
def azDev (ai : Fin 3) (c : Dev nD) : Dev nD :=
  match ai with
  | 0 => ⟨k0_dev19 c, k0_dev19_lt c⟩ | 1 => ⟨k0_dev20 c, k0_dev20_lt c⟩ | 2 => ⟨k0_dev21 c, k0_dev21_lt c⟩
/-- Where the copy of the pair-sum block `(bi, o)` goes. -/
def bDev (bi : Fin 5) (o : Fin 3) (c : Dev nD) : Dev nD :=
  match bi, o with
  | 0, 0 => ⟨k0_dev22 c, k0_dev22_lt c⟩ | 0, 1 => ⟨k0_dev23 c, k0_dev23_lt c⟩ | 0, 2 => ⟨k0_dev24 c, k0_dev24_lt c⟩
  | 1, 0 => ⟨k0_dev25 c, k0_dev25_lt c⟩ | 1, 1 => ⟨k0_dev26 c, k0_dev26_lt c⟩ | 1, 2 => ⟨k0_dev27 c, k0_dev27_lt c⟩
  | 2, 0 => ⟨k0_dev28 c, k0_dev28_lt c⟩ | 2, 1 => ⟨k0_dev29 c, k0_dev29_lt c⟩ | 2, 2 => ⟨k0_dev30 c, k0_dev30_lt c⟩
  | 3, 0 => ⟨k0_dev31 c, k0_dev31_lt c⟩ | 3, 1 => ⟨k0_dev32 c, k0_dev32_lt c⟩ | 3, 2 => ⟨k0_dev33 c, k0_dev33_lt c⟩
  | 4, 0 => ⟨k0_dev34 c, k0_dev34_lt c⟩ | 4, 1 => ⟨k0_dev35 c, k0_dev35_lt c⟩ | 4, 2 => ⟨k0_dev36 c, k0_dev36_lt c⟩

/-- The signals go to the plane peers at distance 3, 1, 2 and to the mate. -/
theorem sigDev_eq (k : Fin 4) (c : Dev nD) : sigDev k c = tgt c (![3, 1, 2, 0] k) := by revert k c; decide +kernel
theorem zbDev_eq (bi : Fin 5) (c : Dev nD) : zbDev bi c = tgt c 0 := by revert bi c; decide +kernel
theorem aDev_eq (ai o : Fin 3) (c : Dev nD) : aDev ai o c = tgt c o.succ := by revert ai o c; decide +kernel
theorem azDev_eq (ai : Fin 3) (c : Dev nD) : azDev ai c = tgt c 0 := by revert ai c; decide +kernel
theorem bDev_eq (bi : Fin 5) (o : Fin 3) (c : Dev nD) : bDev bi o c = tgt c o.succ := by revert bi o c; decide +kernel

/-! ## The rectangles -/

/-- The whole of the `x` block. -/
abbrev xR : Rect S512x512 := Rect.unit (s := S512x512) ![0, 0] S512x512.size inb_S512x512_S512x512_0_0

theorem strip_inb : ∀ st : Fin 8, ∀ a, (![0, 256 * st.val] : Fin 2 → ℕ) a + S512x256.size a ≤ S512x2048.size a := by decide
/-- Column block `st`. -/
abbrev stripR (st : Fin 8) : Rect S512x2048 := Rect.unit (s := S512x2048) ![0, 256 * st.val] S512x256.size (strip_inb st)
/-- A 256 by 256 block of the accumulator. -/
abbrev halfR (off : Fin 2 → ℕ) (h : ∀ a, off a + S256x256.size a ≤ S512x2048.size a) : Rect S512x2048 := Rect.unit (s := S512x2048) off S256x256.size h
/-- A 64 by 256 block of the accumulator. -/
abbrev rowsR (off : Fin 2 → ℕ) (h : ∀ a, off a + S64x256.size a ≤ S512x2048.size a) : Rect S512x2048 := Rect.unit (s := S512x2048) off S64x256.size h

theorem zbR_inb : ∀ bi : Fin 5, ∀ a, (![bi.val, 0, 0] : Fin 3 → ℕ) a + S1x256x256.size a ≤ S5x256x256.size a := by decide
/-- Slot `bi` of the half-block buffers. -/
abbrev zbR (bi : Fin 5) : Rect S5x256x256 := Rect.unit (s := S5x256x256) ![bi.val, 0, 0] S1x256x256.size (zbR_inb bi)
/-- A 64-row block of the pair sums. -/
abbrev prowsR (off : Fin 3 → ℕ) (h : ∀ a, off a + S1x64x256.size a ≤ S5x256x256.size a) : Rect S5x256x256 := Rect.unit (s := S5x256x256) off S1x64x256.size h

theorem aR_inb : ∀ ai o : Fin 3, ∀ a, (![ai.val, o.val, 0, 0, 0] : Fin 5 → ℕ) a + S1x1x2x64x256.size a ≤ S3x3x2x64x256.size a := by decide
/-- Slot `(ai, o)` of the block-pair buffers. -/
abbrev aR (ai o : Fin 3) : Rect S3x3x2x64x256 := Rect.unit (s := S3x3x2x64x256) ![ai.val, o.val, 0, 0, 0] S1x1x2x64x256.size (aR_inb ai o)
theorem ahR_inb : ∀ (ai o : Fin 3) (h : Fin 2), ∀ a, (![ai.val, o.val, h.val, 0, 0] : Fin 5 → ℕ) a + S1x1x1x64x256.size a ≤ S3x3x2x64x256.size a := by decide
/-- Half `h` of slot `(ai, o)`. -/
abbrev ahR (ai o : Fin 3) (h : Fin 2) : Rect S3x3x2x64x256 :=
  Rect.unit (s := S3x3x2x64x256) ![ai.val, o.val, h.val, 0, 0] S1x1x1x64x256.size (ahR_inb ai o h)

theorem azR_inb : ∀ ai : Fin 3, ∀ a, (![ai.val, 0, 0] : Fin 3 → ℕ) a + S1x64x256.size a ≤ S3x64x256.size a := by decide
/-- Slot `ai` of the plane-sum buffers. -/
abbrev azR (ai : Fin 3) : Rect S3x64x256 := Rect.unit (s := S3x64x256) ![ai.val, 0, 0] S1x64x256.size (azR_inb ai)

theorem bR_inb : ∀ (bi : Fin 5) (o : Fin 3), ∀ a, (![bi.val, o.val, 0, 0] : Fin 4 → ℕ) a + S1x1x64x256.size a ≤ S5x3x64x256.size a := by decide
/-- Slot `(bi, o)` of the pair-sum copy buffers. -/
abbrev bR (bi : Fin 5) (o : Fin 3) : Rect S5x3x64x256 := Rect.unit (s := S5x3x64x256) ![bi.val, o.val, 0, 0] S1x1x64x256.size (bR_inb bi o)

theorem ocol_inb : ∀ st : Fin 8, ∀ a, (![0, 256 * st.val] : Fin 2 → ℕ) a + S64x256.size a ≤ S64x2048.size a := by decide
/-- Column block `st` of the result. -/
abbrev ocolR (st : Fin 8) : Rect S64x2048 := Rect.unit (s := S64x2048) ![0, 256 * st.val] S64x256.size (ocol_inb st)

theorem zbR_words : ∀ bi : Fin 5, (zbR bi).WholeWords (EltTy.packing .bf16) := by decide
theorem zbR_packed : ∀ bi : Fin 5, (zbR bi).PackedRows (EltTy.packing .bf16) := by decide
theorem aR_words : ∀ ai o : Fin 3, (aR ai o).WholeWords (EltTy.packing .bf16) := by decide
theorem ahR_packed : ∀ (ai o : Fin 3) (h : Fin 2), (ahR ai o h).PackedRows (EltTy.packing .bf16) := by decide
theorem azR_words : ∀ ai : Fin 3, (azR ai).WholeWords (EltTy.packing .bf16) := by decide
theorem azR_packed : ∀ ai : Fin 3, (azR ai).PackedRows (EltTy.packing .bf16) := by decide
theorem bR_words : ∀ (bi : Fin 5) (o : Fin 3), (bR bi o).WholeWords (EltTy.packing .bf16) := by decide
theorem bR_packed : ∀ (bi : Fin 5) (o : Fin 3), (bR bi o).PackedRows (EltTy.packing .bf16) := by decide

/-! ## The slots as the copies name them -/

abbrev zbSlot (M : Memref sig .tc .vmem S5x256x256 .bf16) (bi : Fin 5) : Memref sig .tc .vmem S256x256 .bf16 :=
  (M.slice (zbR bi) (fun _ => rfl)).squeeze S256x256 squeezes_S1x256x256_S256x256
abbrev aSlot (M : Memref sig .tc .vmem S3x3x2x64x256 .bf16) (ai o : Fin 3) : Memref sig .tc .vmem S2x64x256 .bf16 :=
  (M.slice (aR ai o) (fun _ => rfl)).squeeze S2x64x256 squeezes_S1x1x2x64x256_S2x64x256
abbrev azSlot (M : Memref sig .tc .vmem S3x64x256 .bf16) (ai : Fin 3) : Memref sig .tc .vmem S64x256 .bf16 :=
  (M.slice (azR ai) (fun _ => rfl)).squeeze S64x256 squeezes_S1x64x256_S64x256
abbrev bSlot (M : Memref sig .tc .vmem S5x3x64x256 .bf16) (bi : Fin 5) (o : Fin 3) : Memref sig .tc .vmem S64x256 .bf16 :=
  (M.slice (bR bi o) (fun _ => rfl)).squeeze S64x256 squeezes_S1x1x64x256_S64x256

theorem zbWords {M : Memref sig .tc .vmem S5x256x256 .bf16} (hM : M.IsWhole) (bi : Fin 5) : (zbSlot M bi).view.WordExact :=
  (hM.wordExact_slice rfl _ (zbR_words bi)).reshape _ _
theorem aWords {M : Memref sig .tc .vmem S3x3x2x64x256 .bf16} (hM : M.IsWhole) (ai o : Fin 3) : (aSlot M ai o).view.WordExact :=
  (hM.wordExact_slice rfl _ (aR_words ai o)).reshape _ _
theorem azWords {M : Memref sig .tc .vmem S3x64x256 .bf16} (hM : M.IsWhole) (ai : Fin 3) : (azSlot M ai).view.WordExact :=
  (hM.wordExact_slice rfl _ (azR_words ai)).reshape _ _
theorem bWords {M : Memref sig .tc .vmem S5x3x64x256 .bf16} (hM : M.IsWhole) (bi : Fin 5) (o : Fin 3) : (bSlot M bi o).view.WordExact :=
  (hM.wordExact_slice rfl _ (bR_words bi o)).reshape _ _

/-! ## The semaphores -/

abbrev aS (ai o : Fin 3) : DmaSem sig := ⟨3 + 3 * ai.val + o.val, by simp only [sig]; omega⟩
abbrev aV (ai o : Fin 3) : DmaSem sig := ⟨12 + 3 * ai.val + o.val, by simp only [sig]; omega⟩
abbrev azS (ai : Fin 3) : DmaSem sig := ⟨21 + ai.val, by simp only [sig]; omega⟩
abbrev azV (ai : Fin 3) : DmaSem sig := ⟨24 + ai.val, by simp only [sig]; omega⟩
abbrev zbS (bi : Fin 5) : DmaSem sig := ⟨27 + bi.val, by simp only [sig]; omega⟩
abbrev zbV (bi : Fin 5) : DmaSem sig := ⟨32 + bi.val, by simp only [sig]; omega⟩
abbrev bS (bi : Fin 5) (o : Fin 3) : DmaSem sig := ⟨37 + 3 * bi.val + o.val, by simp only [sig]; omega⟩
abbrev bV (bi : Fin 5) (o : Fin 3) : DmaSem sig := ⟨52 + 3 * bi.val + o.val, by simp only [sig]; omega⟩
abbrev barS : Sem sig := sig.barrier 0 rfl

/-! ## The steps -/

/-- One step for each element of a list, in order. -/
def forL {α : Type} (l : List α) (f : α → P F PUnit) : P F PUnit :=
  match l with
  | [] => pure ⟨⟩
  | a :: l => do f a; forL l f

/-- The product of the `x` block with column block `st` of the `dy` block, into the accumulator. -/
def gemm (st : Fin 8) : P F PUnit := do
  let v : Vec F S512x512 .f32 ← Prog.lift (.load xM xR.toLoadRect (View.loadsAt_vmem h_S512x512))
  let w : Vec F S512x256 .f32 ← Prog.lift (.load dyM (stripR st).toLoadRect (View.loadsAt_vmem h_S512x256))
  let _ : Vec F S512x256 .f32 ← Prog.lift (.load accM (stripR st).toLoadRect (View.loadsAt_vmem h_S512x256))
  Prog.lift (.store accM (stripR st) (k0_pay1 v w) Finset.univ (View.stores_vmem_bits_univ h_S512x256 rfl) (.inl rfl))

/-- The half block that leaves, rounded, into its slot. -/
def zbFill (c : Dev nD) (bi : Fin 5) : P F PUnit := do
  let v : Vec F S256x256 .f32 ← Prog.lift (.load accM (halfR (zbOff bi c) (zbOff_inb bi c)).toLoadRect (View.loadsAt_vmem h_S256x256))
  let _ : Vec F S1x256x256 .bf16 ← Prog.lift (.load zbsM (zbR bi).toLoadRect (View.loadsAt_vmem h_S1x256x256))
  Prog.lift (.store zbsM (zbR bi) (k0_pay2 v) Finset.univ (View.stores_vmem h_S1x256x256 ((Memref.isWhole_whole _).storeExact_slice rfl _ (zbR_packed bi)) (fun _ => rfl)) (.inl rfl))

/-- Its copy to the mate. -/
def zbSend (c : Dev nD) (bi : Fin 5) : P F PUnit :=
  Prog.lift (.enqueueDma (zbSlot zbsM bi) (.remote (Dev.tc (zbDev bi c)) (zbSlot zbrM bi) (.dma (zbS bi))) (.dma (zbV bi))
    (zbWords (Memref.isWhole_whole _) bi) (zbWords (Memref.isWhole_whole _) bi) ⟨⟨rfl, Or.inl rfl⟩, trivial⟩)

/-- Two blocks for a plane peer, rounded, into their slot; -/
def aFill (c : Dev nD) (ai o : Fin 3) (h : Fin 2) : P F PUnit := do
  let v : Vec F S64x256 .f32 ← Prog.lift (.load accM (rowsR (aOff ai h o c) (aOff_inb ai h o c)).toLoadRect (View.loadsAt_vmem h_S64x256))
  let _ : Vec F S1x1x1x64x256 .bf16 ← Prog.lift (.load abufM (ahR ai o h).toLoadRect (View.loadsAt_vmem h_S1x1x1x64x256))
  Prog.lift (.store abufM (ahR ai o h) (k0_pay16 v) Finset.univ (View.stores_vmem h_S1x1x1x64x256 ((Memref.isWhole_whole _).storeExact_slice rfl _ (ahR_packed ai o h)) (fun _ => rfl)) (.inl rfl))

/-- and their copy to it. -/
def aSend (c : Dev nD) (ai o : Fin 3) : P F PUnit :=
  Prog.lift (.enqueueDma (aSlot abufM ai o) (.remote (Dev.tc (aDev ai o c)) (aSlot arecvM ai o) (.dma (aS ai o))) (.dma (aV ai o))
    (aWords (Memref.isWhole_whole _) ai o) (aWords (Memref.isWhole_whole _) ai o) ⟨⟨rfl, Or.inl rfl⟩, trivial⟩)

/-- The wait for the blocks of a plane peer. -/
def aWait (ai o : Fin 3) : P F PUnit :=
  Prog.lift (.waitDma2 (aV ai o) (aSlot abufM ai o) (aSlot arecvM ai o) (aWords (Memref.isWhole_whole _) ai o) (aWords (Memref.isWhole_whole _) ai o))

/-- A read of half `h` of the blocks landed from the plane peer `o`. -/
def aLoad (ai o : Fin 3) (h : Fin 2) : P F (Vec F S1x1x1x64x256 .bf16) :=
  Prog.lift (.load arecvM (ahR ai o h).toLoadRect (View.loadsAt_vmem h_S1x1x1x64x256))

/-- The plane's sum of the device's own block, kept; -/
def asumFill (c : Dev nD) (ai : Fin 3) : P F PUnit := do
  let v : Vec F S64x256 .f32 ← Prog.lift (.load accM (rowsR (myOff ai 0 c) (myOff_inb ai 0 c)).toLoadRect (View.loadsAt_vmem h_S64x256))
  let w0 ← aLoad ai 0 0
  let w1 ← aLoad ai 1 0
  let w2 ← aLoad ai 2 0
  let _ : Vec F S1x64x256 .f32 ← Prog.lift (.load asumM (azR ai).toLoadRect (View.loadsAt_vmem h_S1x64x256))
  Prog.lift (.store asumM (azR ai) (k0_pay41 v w0 w1 w2) Finset.univ (View.stores_vmem_bits_univ h_S1x64x256 rfl) (.inl rfl))

/-- the plane's sum of the mate's block, rounded, into its slot; -/
def azFill (c : Dev nD) (ai : Fin 3) : P F PUnit := do
  let v : Vec F S64x256 .f32 ← Prog.lift (.load accM (rowsR (myOff ai 1 c) (myOff_inb ai 1 c)).toLoadRect (View.loadsAt_vmem h_S64x256))
  let w0 ← aLoad ai 0 1
  let w1 ← aLoad ai 1 1
  let w2 ← aLoad ai 2 1
  let _ : Vec F S1x64x256 .bf16 ← Prog.lift (.load azsM (azR ai).toLoadRect (View.loadsAt_vmem h_S1x64x256))
  Prog.lift (.store azsM (azR ai) (k0_pay42 v w0 w1 w2) Finset.univ (View.stores_vmem h_S1x64x256 ((Memref.isWhole_whole _).storeExact_slice rfl _ (azR_packed ai)) (fun _ => rfl)) (.inl rfl))

/-- and its copy to the mate. -/
def azSend (c : Dev nD) (ai : Fin 3) : P F PUnit :=
  Prog.lift (.enqueueDma (azSlot azsM ai) (.remote (Dev.tc (azDev ai c)) (azSlot azrM ai) (.dma (azS ai))) (.dma (azV ai))
    (azWords (Memref.isWhole_whole _) ai) (azWords (Memref.isWhole_whole _) ai) ⟨⟨rfl, Or.inl rfl⟩, trivial⟩)

/-- The wait for the mate's half block; -/
def zbWait (bi : Fin 5) : P F PUnit :=
  Prog.lift (.waitDma2 (zbV bi) (zbSlot zbsM bi) (zbSlot zbrM bi) (zbWords (Memref.isWhole_whole _) bi) (zbWords (Memref.isWhole_whole _) bi))

/-- the sum of it with the half block that stayed; -/
def pairFill (c : Dev nD) (bi : Fin 5) : P F PUnit := do
  let w : Vec F S1x256x256 .bf16 ← Prog.lift (.load zbrM (zbR bi).toLoadRect (View.loadsAt_vmem h_S1x256x256))
  let v : Vec F S256x256 .f32 ← Prog.lift (.load accM (halfR (keepOff bi c) (keepOff_inb bi c)).toLoadRect (View.loadsAt_vmem h_S256x256))
  let _ : Vec F S1x256x256 .f32 ← Prog.lift (.load pairM (zbR bi).toLoadRect (View.loadsAt_vmem h_S1x256x256))
  Prog.lift (.store pairM (zbR bi) (k0_pay49 w v) Finset.univ (View.stores_vmem_bits_univ h_S1x256x256 rfl) (.inl rfl))

/-- a block of the sum for a plane peer, rounded, into its slot; -/
def bFill (c : Dev nD) (bi : Fin 5) (o : Fin 3) : P F PUnit := do
  let v : Vec F S1x64x256 .f32 ← Prog.lift (.load pairM (prowsR (bOff bi o c) (bOff_inb bi o c)).toLoadRect (View.loadsAt_vmem h_S1x64x256))
  let _ : Vec F S1x1x64x256 .bf16 ← Prog.lift (.load bbufM (bR bi o).toLoadRect (View.loadsAt_vmem h_S1x1x64x256))
  Prog.lift (.store bbufM (bR bi o) (k0_pay50 v) Finset.univ (View.stores_vmem h_S1x1x64x256 ((Memref.isWhole_whole _).storeExact_slice rfl _ (bR_packed bi o)) (fun _ => rfl)) (.inl rfl))

/-- and its copy to it. -/
def bSend (c : Dev nD) (bi : Fin 5) (o : Fin 3) : P F PUnit :=
  Prog.lift (.enqueueDma (bSlot bbufM bi o) (.remote (Dev.tc (bDev bi o c)) (bSlot brecvM bi o) (.dma (bS bi o))) (.dma (bV bi o))
    (bWords (Memref.isWhole_whole _) bi o) (bWords (Memref.isWhole_whole _) bi o) ⟨⟨rfl, Or.inl rfl⟩, trivial⟩)

/-- The wait for the mate's plane sum; -/
def azWait (ai : Fin 3) : P F PUnit :=
  Prog.lift (.waitDma2 (azV ai) (azSlot azsM ai) (azSlot azrM ai) (azWords (Memref.isWhole_whole _) ai) (azWords (Memref.isWhole_whole _) ai))

/-- column block `ai` of the result. -/
def outA (ai : Fin 3) : P F PUnit := do
  let v : Vec F S1x64x256 .f32 ← Prog.lift (.load asumM (azR ai).toLoadRect (View.loadsAt_vmem h_S1x64x256))
  let w : Vec F S1x64x256 .bf16 ← Prog.lift (.load azrM (azR ai).toLoadRect (View.loadsAt_vmem h_S1x64x256))
  let _ : Vec F S64x256 .f32 ← Prog.lift (.load outM (ocolR (ai.castLE (by decide))).toLoadRect (View.loadsAt_vmem h_S64x256))
  Prog.lift (.store outM (ocolR (ai.castLE (by decide))) (k0_pay74 v w) Finset.univ (View.stores_vmem_bits_univ h_S64x256 rfl) (.inl rfl))

/-- The wait for a plane peer's block; -/
def bWait (bi : Fin 5) (o : Fin 3) : P F PUnit :=
  Prog.lift (.waitDma2 (bV bi o) (bSlot bbufM bi o) (bSlot brecvM bi o) (bWords (Memref.isWhole_whole _) bi o) (bWords (Memref.isWhole_whole _) bi o))

/-- A read of it. -/
def bLoad (bi : Fin 5) (o : Fin 3) : P F (Vec F S1x1x64x256 .bf16) :=
  Prog.lift (.load brecvM (bR bi o).toLoadRect (View.loadsAt_vmem h_S1x1x64x256))

/-- column block `3 + bi` of the result. -/
def outB (c : Dev nD) (bi : Fin 5) : P F PUnit := do
  let v : Vec F S1x64x256 .f32 ← Prog.lift (.load pairM (prowsR (ownOff bi c) (ownOff_inb bi c)).toLoadRect (View.loadsAt_vmem h_S1x64x256))
  let w0 ← bLoad bi 0
  let w1 ← bLoad bi 1
  let w2 ← bLoad bi 2
  let _ : Vec F S64x256 .f32 ← Prog.lift (.load outM (ocolR (Fin.natAdd 3 bi)).toLoadRect (View.loadsAt_vmem h_S64x256))
  Prog.lift (.store outM (ocolR (Fin.natAdd 3 bi)) (k0_pay77 v w0 w1 w2) Finset.univ (View.stores_vmem_bits_univ h_S64x256 rfl) (.inl rfl))

/-- The waits for the copies' departures. -/
def zbDone (bi : Fin 5) : P F PUnit :=
  Prog.lift (.waitDma2 (zbS bi) (zbSlot zbrM bi) (zbSlot zbsM bi) (zbWords (Memref.isWhole_whole _) bi) (zbWords (Memref.isWhole_whole _) bi))
def aDone (ai o : Fin 3) : P F PUnit :=
  Prog.lift (.waitDma2 (aS ai o) (aSlot arecvM ai o) (aSlot abufM ai o) (aWords (Memref.isWhole_whole _) ai o) (aWords (Memref.isWhole_whole _) ai o))
def azDone (ai : Fin 3) : P F PUnit :=
  Prog.lift (.waitDma2 (azS ai) (azSlot azrM ai) (azSlot azsM ai) (azWords (Memref.isWhole_whole _) ai) (azWords (Memref.isWhole_whole _) ai))
def bDone (bi : Fin 5) (o : Fin 3) : P F PUnit :=
  Prog.lift (.waitDma2 (bS bi o) (bSlot brecvM bi o) (bSlot bbufM bi o) (bWords (Memref.isWhole_whole _) bi o) (bWords (Memref.isWhole_whole _) bi o))

abbrev l3 : List (Fin 3) := [0, 1, 2]
abbrev l5 : List (Fin 5) := [0, 1, 2, 3, 4]

/-- The signals to the four peers. -/
def signals (c : Dev nD) : P F PUnit := forL [0, 1, 2, 3] fun k => semSignalWord (sigDev k c) barS 1#32

/-- The half blocks: the first product, the wait for the peers, then fill, send and the next product. -/
def phase1 (c : Dev nD) : P F PUnit := do
  gemm 3
  semWaitWord barS 4#32
  zbFill c 0
  zbSend c 0
  forL [1, 2, 3, 4] fun bi : Fin 5 => do gemm (Fin.natAdd 3 bi); zbFill c bi; zbSend c bi

/-- The block pairs. -/
def phase2 (c : Dev nD) : P F PUnit :=
  forL l3 fun ai => do
    gemm (ai.castLE (by decide))
    forL l3 fun o => do aFill c ai o 0; aFill c ai o 1; aSend c ai o

/-- The plane sums. -/
def phase3 (c : Dev nD) : P F PUnit :=
  forL l3 fun ai => do forL l3 (aWait ai); asumFill c ai; azFill c ai; azSend c ai

/-- The pair sums. -/
def phase4 (c : Dev nD) : P F PUnit :=
  forL l5 fun bi => do
    zbWait bi
    pairFill c bi
    forL l3 fun o => do bFill c bi o; bSend c bi o

/-- The result. -/
def phase5 (c : Dev nD) : P F PUnit := do
  forL l3 fun ai => do azWait ai; outA ai
  forL l5 fun bi => do forL l3 (bWait bi); outB c bi

/-- The departures. -/
def phase6 : P F PUnit := do
  forL l5 zbDone
  forL l3 fun ai => forL l3 (aDone ai)
  forL l3 azDone
  forL l5 fun bi => forL l3 (bDone bi)

/-- The body. -/
def steps : P F PUnit := do
  let c : Dev nD ← Prog.lift .deviceId
  signals c
  phase1 c
  phase2 c
  phase3 c
  phase4 c
  phase5 c
  phase6

set_option maxRecDepth 100000 in
/-- The kernel's body is the composition of the steps. -/
theorem body_eq (t : Fin cfg0.N) : bodyAt0 (F := F) t = steps (F := F) := by
  chain_rfl

end Cert.Dot

end
-- ==== Proof.Contents.lean ====
/-
What every buffer of the kernel holds, as a function of the blocks of `x` and `dy` the devices start from.
-/
module

public import proofs.«01_k».proof.Proof.Steps
public import Idealize.ShloMosaic.Lib.ValueIdxCore

@[expose] public section

noncomputable section

namespace Cert.Dot

open Cert.KernelIdeal Cert.KernelIdeal.Gen
open Idealize.ShloMosaic Idealize.ShloMosaic.TcCoe
open Idealize.ShloMosaic.ValueIdx

variable {F : FTy → Type} [FloatOps F]

theorem tgt_neg (c : Dev nD) (k : Fin 4) : tgt (tgt c k) (-k) = c := by revert c k; decide
theorem neg_tgt (c : Dev nD) (k : Fin 4) : tgt (tgt c (-k)) k = c := by revert c k; decide

section
variable (X : Dev nD → Vec F S512x512 .f32) (Y : Dev nD → Vec F S512x2048 .f32) (c : Dev nD)

/-- The accumulator on device `c`, column block `st`: the product of its blocks. -/
def accV (st : Fin 8) : Vec F S512x256 .f32 := k0_pay1 (X c) fun j => Y c ((stripR st).emb j)
/-- The accumulator on device `c`. -/
def accG : Vec F S512x2048 .f32 := fun i =>
  accV X Y c ⟨(i 1).val / 256, by have : (i 1).val < 2048 := (i 1).isLt; omega⟩ (ix2 (i 0) ⟨(i 1).val % 256, Nat.mod_lt _ (by decide)⟩)

/-- The half block of column block `3 + bi` that leaves for the mate. -/
def zbsV (bi : Fin 5) : Vec F S1x256x256 .bf16 := k0_pay2 fun j => accG X Y c ((halfR (zbOff bi c) (zbOff_inb bi c)).emb j)
def zbsG : Vec F S5x256x256 .bf16 := fun i => zbsV X Y c (i 0) (ix3 0 (i 1) (i 2))
/-- The one that lands from it. -/
def zbrG : Vec F S5x256x256 .bf16 := zbsG X Y (tgt c 0)

/-- The blocks of column block `ai` that leave for the plane peer at distance `o + 1`. -/
def abufV (ai o : Fin 3) (h : Fin 2) : Vec F S1x1x1x64x256 .bf16 :=
  k0_pay16 fun j => accG X Y c ((rowsR (aOff ai h o c) (aOff_inb ai h o c)).emb j)
def abufG : Vec F S3x3x2x64x256 .bf16 := fun i => abufV X Y c (i 0) (i 1) (i 2) (ix5 0 0 0 (i 3) (i 4))
/-- The ones that land. -/
def arecvG : Vec F S3x3x2x64x256 .bf16 := fun i => abufG X Y (tgt c (-(Fin.succ (i 1 : Fin 3)))) i

/-- The plane's sum of the device's own block; -/
def asumV (ai : Fin 3) : Vec F S1x64x256 .f32 :=
  k0_pay41 (fun j => accG X Y c ((rowsR (myOff ai 0 c) (myOff_inb ai 0 c)).emb j))
    (fun j => arecvG X Y c ((ahR ai 0 0).emb j)) (fun j => arecvG X Y c ((ahR ai 1 0).emb j)) (fun j => arecvG X Y c ((ahR ai 2 0).emb j))
def asumG : Vec F S3x64x256 .f32 := fun i => asumV X Y c (i 0) (ix3 0 (i 1) (i 2))
/-- of the mate's, which leaves for it; -/
def azsV (ai : Fin 3) : Vec F S1x64x256 .bf16 :=
  k0_pay42 (fun j => accG X Y c ((rowsR (myOff ai 1 c) (myOff_inb ai 1 c)).emb j))
    (fun j => arecvG X Y c ((ahR ai 0 1).emb j)) (fun j => arecvG X Y c ((ahR ai 1 1).emb j)) (fun j => arecvG X Y c ((ahR ai 2 1).emb j))
def azsG : Vec F S3x64x256 .bf16 := fun i => azsV X Y c (i 0) (ix3 0 (i 1) (i 2))
/-- and the mate's sum, landed. -/
def azrG : Vec F S3x64x256 .bf16 := azsG X Y (tgt c 0)

/-- The sum of the half block that stayed and the mate's. -/
def pairV (bi : Fin 5) : Vec F S1x256x256 .f32 :=
  k0_pay49 (fun j => zbrG X Y c ((zbR bi).emb j)) (fun j => accG X Y c ((halfR (keepOff bi c) (keepOff_inb bi c)).emb j))
def pairG : Vec F S5x256x256 .f32 := fun i => pairV X Y c (i 0) (ix3 0 (i 1) (i 2))

/-- The block of it that leaves for the plane peer at distance `o + 1`. -/
def bbufV (bi : Fin 5) (o : Fin 3) : Vec F S1x1x64x256 .bf16 :=
  k0_pay50 fun j => pairG X Y c ((prowsR (bOff bi o c) (bOff_inb bi o c)).emb j)
def bbufG : Vec F S5x3x64x256 .bf16 := fun i => bbufV X Y c (i 0) (i 1) (ix4 0 0 (i 2) (i 3))
/-- The ones that land. -/
def brecvG : Vec F S5x3x64x256 .bf16 := fun i => bbufG X Y (tgt c (-(Fin.succ (i 1 : Fin 3)))) i

/-- The result: column blocks 0 to 2, -/
def outAV (ai : Fin 3) : Vec F S64x256 .f32 :=
  k0_pay74 (fun j => asumG X Y c ((azR ai).emb j)) (fun j => azrG X Y c ((azR ai).emb j))
/-- and 3 to 7. -/
def outBV (bi : Fin 5) : Vec F S64x256 .f32 :=
  k0_pay77 (fun j => pairG X Y c ((prowsR (ownOff bi c) (ownOff_inb bi c)).emb j))
    (fun j => brecvG X Y c ((bR bi 0).emb j)) (fun j => brecvG X Y c ((bR bi 1).emb j)) (fun j => brecvG X Y c ((bR bi 2).emb j))
def outV (st : Fin 8) : Vec F S64x256 .f32 :=
  Fin.addCases (m := 3) (n := 5) (motive := fun _ => Vec F S64x256 .f32) (outAV X Y c) (outBV X Y c) st
def outG : Vec F S64x2048 .f32 := fun i =>
  outV X Y c ⟨(i 1).val / 256, by have : (i 1).val < 2048 := (i 1).isLt; omega⟩ (ix2 (i 0) ⟨(i 1).val % 256, Nat.mod_lt _ (by decide)⟩)

/-! Each buffer read at a slot is that slot's value. -/

theorem accG_strip (st : Fin 8) (j : (stripR st).shape.Idx) : accG X Y c ((stripR st).emb j) = accV X Y c st j := by
  have h1 : (j 1).val < 256 := (j 1).isLt
  unfold accG
  refine congr (congrArg (accV X Y c) (Fin.ext ?_)) (funext fun a => ?_)
  · show (256 * st.val + 1 * (j 1).val) / 256 = st.val; omega
  · fin_cases a
    · exact Fin.ext (show 0 + 1 * (j 0).val = (j 0).val by omega)
    · exact Fin.ext (show (256 * st.val + 1 * (j 1).val) % 256 = (j 1).val by omega)

theorem outG_strip (st : Fin 8) (j : (ocolR st).shape.Idx) : outG X Y c ((ocolR st).emb j) = outV X Y c st j := by
  have h1 : (j 1).val < 256 := (j 1).isLt
  unfold outG
  refine congr (congrArg (outV X Y c) (Fin.ext ?_)) (funext fun a => ?_)
  · show (256 * st.val + 1 * (j 1).val) / 256 = st.val; omega
  · fin_cases a
    · exact Fin.ext (show 0 + 1 * (j 0).val = (j 0).val by omega)
    · exact Fin.ext (show (256 * st.val + 1 * (j 1).val) % 256 = (j 1).val by omega)

end

theorem zbR_emb (bi : Fin 5) (j : (zbR bi).shape.Idx) : (zbR bi).emb j = ix3 bi (j 1) (j 2) := by
  have h0 : (j 0).val < 1 := (j 0).isLt
  funext a
  fin_cases a
  · exact Fin.ext (show bi.val + 1 * (j 0).val = bi.val by omega)
  · exact Fin.ext (show 0 + 1 * (j 1).val = (j 1).val by omega)
  · exact Fin.ext (show 0 + 1 * (j 2).val = (j 2).val by omega)
theorem azR_emb (ai : Fin 3) (j : (azR ai).shape.Idx) : (azR ai).emb j = ix3 ai (j 1) (j 2) := by
  have h0 : (j 0).val < 1 := (j 0).isLt
  funext a
  fin_cases a
  · exact Fin.ext (show ai.val + 1 * (j 0).val = ai.val by omega)
  · exact Fin.ext (show 0 + 1 * (j 1).val = (j 1).val by omega)
  · exact Fin.ext (show 0 + 1 * (j 2).val = (j 2).val by omega)
theorem ahR_emb (ai o : Fin 3) (h : Fin 2) (j : (ahR ai o h).shape.Idx) : (ahR ai o h).emb j = ix5 ai o h (j 3) (j 4) := by
  have h0 : (j 0).val < 1 := (j 0).isLt
  have h1 : (j 1).val < 1 := (j 1).isLt
  have h2 : (j 2).val < 1 := (j 2).isLt
  funext a
  fin_cases a
  · exact Fin.ext (show ai.val + 1 * (j 0).val = ai.val by omega)
  · exact Fin.ext (show o.val + 1 * (j 1).val = o.val by omega)
  · exact Fin.ext (show h.val + 1 * (j 2).val = h.val by omega)
  · exact Fin.ext (show 0 + 1 * (j 3).val = (j 3).val by omega)
  · exact Fin.ext (show 0 + 1 * (j 4).val = (j 4).val by omega)
theorem bR_emb (bi : Fin 5) (o : Fin 3) (j : (bR bi o).shape.Idx) : (bR bi o).emb j = ix4 bi o (j 2) (j 3) := by
  have h0 : (j 0).val < 1 := (j 0).isLt
  have h1 : (j 1).val < 1 := (j 1).isLt
  funext a
  fin_cases a
  · exact Fin.ext (show bi.val + 1 * (j 0).val = bi.val by omega)
  · exact Fin.ext (show o.val + 1 * (j 1).val = o.val by omega)
  · exact Fin.ext (show 0 + 1 * (j 2).val = (j 2).val by omega)
  · exact Fin.ext (show 0 + 1 * (j 3).val = (j 3).val by omega)

/-- An index whose leading axes have one coordinate. -/
theorem ix3_one {n m : ℕ} (j : (⟨3, ![1, n, m]⟩ : Shape).Idx) : ix3 0 (j 1) (j 2) = j := by
  have h0 : (j 0).val < 1 := (j 0).isLt
  funext a
  fin_cases a
  · exact Fin.ext (show 0 = (j 0).val by omega)
  · rfl
  · rfl
theorem ix4_one {n m : ℕ} (j : (⟨4, ![1, 1, n, m]⟩ : Shape).Idx) : ix4 0 0 (j 2) (j 3) = j := by
  have h0 : (j 0).val < 1 := (j 0).isLt
  have h1 : (j 1).val < 1 := (j 1).isLt
  funext a
  fin_cases a
  · exact Fin.ext (show 0 = (j 0).val by omega)
  · exact Fin.ext (show 0 = (j 1).val by omega)
  · rfl
  · rfl
theorem ix5_one {n m : ℕ} (j : (⟨5, ![1, 1, 1, n, m]⟩ : Shape).Idx) : ix5 0 0 0 (j 3) (j 4) = j := by
  have h0 : (j 0).val < 1 := (j 0).isLt
  have h1 : (j 1).val < 1 := (j 1).isLt
  have h2 : (j 2).val < 1 := (j 2).isLt
  funext a
  fin_cases a
  · exact Fin.ext (show 0 = (j 0).val by omega)
  · exact Fin.ext (show 0 = (j 1).val by omega)
  · exact Fin.ext (show 0 = (j 2).val by omega)
  · rfl
  · rfl

section
variable (X : Dev nD → Vec F S512x512 .f32) (Y : Dev nD → Vec F S512x2048 .f32) (c : Dev nD)

theorem zbsG_slot (bi : Fin 5) (j : (zbR bi).shape.Idx) : zbsG X Y c ((zbR bi).emb j) = zbsV X Y c bi j := by
  rw [zbR_emb]; exact congrArg (zbsV X Y c bi) (ix3_one j)
theorem pairG_slot (bi : Fin 5) (j : (zbR bi).shape.Idx) : pairG X Y c ((zbR bi).emb j) = pairV X Y c bi j := by
  rw [zbR_emb]; exact congrArg (pairV X Y c bi) (ix3_one j)
theorem asumG_slot (ai : Fin 3) (j : (azR ai).shape.Idx) : asumG X Y c ((azR ai).emb j) = asumV X Y c ai j := by
  rw [azR_emb]; exact congrArg (asumV X Y c ai) (ix3_one j)
theorem azsG_slot (ai : Fin 3) (j : (azR ai).shape.Idx) : azsG X Y c ((azR ai).emb j) = azsV X Y c ai j := by
  rw [azR_emb]; exact congrArg (azsV X Y c ai) (ix3_one j)
theorem abufG_slot (ai o : Fin 3) (h : Fin 2) (j : (ahR ai o h).shape.Idx) : abufG X Y c ((ahR ai o h).emb j) = abufV X Y c ai o h j := by
  rw [ahR_emb]; exact congrArg (abufV X Y c ai o h) (ix5_one j)
theorem bbufG_slot (bi : Fin 5) (o : Fin 3) (j : (bR bi o).shape.Idx) : bbufG X Y c ((bR bi o).emb j) = bbufV X Y c bi o j := by
  rw [bR_emb]; exact congrArg (bbufV X Y c bi o) (ix4_one j)

end

/-! ## Where the slots lie -/

theorem mem_stripR (st : Fin 8) (i : S512x2048.Idx) : i ∈ (stripR st).set ↔ (i 1).val / 256 = st.val := by
  rw [Rect.mem_set_unit, Fin.forall_fin_two]
  have h0 : (i 0).val < 512 := (i 0).isLt
  show ((0 ≤ (i 0).val ∧ (i 0).val < 0 + 512) ∧ 256 * st.val ≤ (i 1).val ∧ (i 1).val < 256 * st.val + 256) ↔ _
  omega
theorem mem_ocolR (st : Fin 8) (i : S64x2048.Idx) : i ∈ (ocolR st).set ↔ (i 1).val / 256 = st.val := by
  rw [Rect.mem_set_unit, Fin.forall_fin_two]
  have h0 : (i 0).val < 64 := (i 0).isLt
  show ((0 ≤ (i 0).val ∧ (i 0).val < 0 + 64) ∧ 256 * st.val ≤ (i 1).val ∧ (i 1).val < 256 * st.val + 256) ↔ _
  omega
theorem mem_zbR (bi : Fin 5) (i : S5x256x256.Idx) : i ∈ (zbR bi).set ↔ i 0 = bi := by
  rw [Rect.mem_set_unit]
  have h1 : (i 1).val < 256 := (i 1).isLt
  have h2 : (i 2).val < 256 := (i 2).isLt
  refine ⟨fun h => Fin.ext ?_, fun h a => ?_⟩
  · have : bi.val ≤ (i 0).val ∧ (i 0).val < bi.val + 1 := h 0
    omega
  · subst h
    fin_cases a
    · show (i 0).val ≤ (i 0).val ∧ (i 0).val < (i 0).val + 1; omega
    · show 0 ≤ (i 1).val ∧ (i 1).val < 0 + 256; omega
    · show 0 ≤ (i 2).val ∧ (i 2).val < 0 + 256; omega
theorem mem_azR (ai : Fin 3) (i : S3x64x256.Idx) : i ∈ (azR ai).set ↔ i 0 = ai := by
  rw [Rect.mem_set_unit]
  have h1 : (i 1).val < 64 := (i 1).isLt
  have h2 : (i 2).val < 256 := (i 2).isLt
  refine ⟨fun h => Fin.ext ?_, fun h a => ?_⟩
  · have : ai.val ≤ (i 0).val ∧ (i 0).val < ai.val + 1 := h 0
    omega
  · subst h
    fin_cases a
    · show (i 0).val ≤ (i 0).val ∧ (i 0).val < (i 0).val + 1; omega
    · show 0 ≤ (i 1).val ∧ (i 1).val < 0 + 64; omega
    · show 0 ≤ (i 2).val ∧ (i 2).val < 0 + 256; omega
theorem mem_bR (bi : Fin 5) (o : Fin 3) (i : S5x3x64x256.Idx) : i ∈ (bR bi o).set ↔ i 0 = bi ∧ i 1 = o := by
  rw [Rect.mem_set_unit]
  have h2 : (i 2).val < 64 := (i 2).isLt
  have h3 : (i 3).val < 256 := (i 3).isLt
  refine ⟨fun h => ⟨Fin.ext ?_, Fin.ext ?_⟩, fun h a => ?_⟩
  · have : bi.val ≤ (i 0).val ∧ (i 0).val < bi.val + 1 := h 0
    omega
  · have : o.val ≤ (i 1).val ∧ (i 1).val < o.val + 1 := h 1
    omega
  · obtain ⟨rfl, rfl⟩ := h
    fin_cases a
    · show (i 0).val ≤ (i 0).val ∧ (i 0).val < (i 0).val + 1; omega
    · show (i 1).val ≤ (i 1).val ∧ (i 1).val < (i 1).val + 1; omega
    · show 0 ≤ (i 2).val ∧ (i 2).val < 0 + 64; omega
    · show 0 ≤ (i 3).val ∧ (i 3).val < 0 + 256; omega
theorem mem_ahR (ai o : Fin 3) (h : Fin 2) (i : S3x3x2x64x256.Idx) : i ∈ (ahR ai o h).set ↔ i 0 = ai ∧ i 1 = o ∧ i 2 = h := by
  rw [Rect.mem_set_unit]
  have h3 : (i 3).val < 64 := (i 3).isLt
  have h4 : (i 4).val < 256 := (i 4).isLt
  refine ⟨fun hh => ⟨Fin.ext ?_, Fin.ext ?_, Fin.ext ?_⟩, fun hh a => ?_⟩
  · have : ai.val ≤ (i 0).val ∧ (i 0).val < ai.val + 1 := hh 0
    omega
  · have : o.val ≤ (i 1).val ∧ (i 1).val < o.val + 1 := hh 1
    omega
  · have : h.val ≤ (i 2).val ∧ (i 2).val < h.val + 1 := hh 2
    omega
  · obtain ⟨rfl, rfl, rfl⟩ := hh
    fin_cases a
    · show (i 0).val ≤ (i 0).val ∧ (i 0).val < (i 0).val + 1; omega
    · show (i 1).val ≤ (i 1).val ∧ (i 1).val < (i 1).val + 1; omega
    · show (i 2).val ≤ (i 2).val ∧ (i 2).val < (i 2).val + 1; omega
    · show 0 ≤ (i 3).val ∧ (i 3).val < 0 + 64; omega
    · show 0 ≤ (i 4).val ∧ (i 4).val < 0 + 256; omega
theorem mem_aR (ai o : Fin 3) (i : S3x3x2x64x256.Idx) : i ∈ (aR ai o).set ↔ i 0 = ai ∧ i 1 = o := by
  rw [Rect.mem_set_unit]
  have h2 : (i 2).val < 2 := (i 2).isLt
  have h3 : (i 3).val < 64 := (i 3).isLt
  have h4 : (i 4).val < 256 := (i 4).isLt
  refine ⟨fun hh => ⟨Fin.ext ?_, Fin.ext ?_⟩, fun hh a => ?_⟩
  · have : ai.val ≤ (i 0).val ∧ (i 0).val < ai.val + 1 := hh 0
    omega
  · have : o.val ≤ (i 1).val ∧ (i 1).val < o.val + 1 := hh 1
    omega
  · obtain ⟨rfl, rfl⟩ := hh
    fin_cases a
    · show (i 0).val ≤ (i 0).val ∧ (i 0).val < (i 0).val + 1; omega
    · show (i 1).val ≤ (i 1).val ∧ (i 1).val < (i 1).val + 1; omega
    · show 0 ≤ (i 2).val ∧ (i 2).val < 0 + 2; omega
    · show 0 ≤ (i 3).val ∧ (i 3).val < 0 + 64; omega
    · show 0 ≤ (i 4).val ∧ (i 4).val < 0 + 256; omega

/-- A 256-row block of the accumulator lies in its column block. -/
theorem half_sub (st : Fin 8) (off : Fin 2 → ℕ) (h) (ho : off 1 = 256 * st.val) : (halfR off h).set ⊆ (stripR st).set := fun i hi => by
  have hi : off 1 ≤ (i 1).val ∧ (i 1).val < off 1 + 256 := Rect.mem_set_unit.mp hi 1
  rw [mem_stripR]; omega
/-- A 64-row block too. -/
theorem rows_sub (st : Fin 8) (off : Fin 2 → ℕ) (h) (ho : off 1 = 256 * st.val) : (rowsR off h).set ⊆ (stripR st).set := fun i hi => by
  have hi : off 1 ≤ (i 1).val ∧ (i 1).val < off 1 + 256 := Rect.mem_set_unit.mp hi 1
  rw [mem_stripR]; omega
/-- A 64-row block of the pair sums lies in its slot. -/
theorem prows_sub (bi : Fin 5) (off : Fin 3 → ℕ) (h) (ho : off 0 = bi.val) : (prowsR off h).set ⊆ (zbR bi).set := fun i hi => by
  have hi : off 0 ≤ (i 0).val ∧ (i 0).val < off 0 + 1 := Rect.mem_set_unit.mp hi 0
  rw [mem_zbR]; exact Fin.ext (by omega)
theorem ah_sub (ai o : Fin 3) (h : Fin 2) : (ahR ai o h).set ⊆ (aR ai o).set := fun i hi => by
  rw [mem_aR]; rw [mem_ahR] at hi; exact ⟨hi.1, hi.2.1⟩
/-- A block-pair slot is its two halves. -/
theorem aR_halves (ai o : Fin 3) : (aR ai o).set = (ahR ai o 0).set ∪ (ahR ai o 1).set := by
  ext i
  rw [Finset.mem_union, mem_aR, mem_ahR, mem_ahR]
  have h2 : ∀ k : Fin 2, k = 0 ∨ k = 1 := by decide
  have := h2 (i 2)
  tauto
theorem aR_halves_disj (ai o : Fin 3) : Disjoint (ahR ai o 0).set (ahR ai o 1).set := by
  rw [Finset.disjoint_left]
  intro i h0 h1
  rw [mem_ahR] at h0 h1
  exact absurd (show (0 : Fin 2) = 1 from h0.2.2.symm.trans h1.2.2) (by decide)

end Cert.Dot

end
-- ==== Proof.Sched.lean ====
/-
The protocol of the kernel's copies: which copy credits which semaphore, what each device owes the others, and what
every wait hands over.

Device `c` of plane `c / 4` has four peers: its mate in the other plane (position 0) and the plane peers at distance
1, 2, 3 (`tgt`). Every copy goes to one of them. On entry a device signals the barrier semaphore of each peer; with
the signal it hands that peer the slots the peer's copies will land in. A copy's arrival hands the receiver the slot
at its contents; its departure hands the sender its own slot back.
-/
module

public import proofs.«01_k».proof.Proof.Contents
public import Idealize.ShloMosaic.Lib.Pipeline.Launch
public import Idealize.ShloMosaic.Lib.Pipeline.Kit

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The copies and the semaphores -/

/-- The copies a device issues: half blocks, block pairs, plane sums, pair-sum blocks. -/
abbrev Cp : Type := Fin 5 ⊕ (Fin 3 × Fin 3) ⊕ Fin 3 ⊕ (Fin 5 × Fin 3)
@[match_pattern] abbrev Cp.zb (bi : Fin 5) : Cp := .inl bi
@[match_pattern] abbrev Cp.a (ai o : Fin 3) : Cp := .inr (.inl (ai, o))
@[match_pattern] abbrev Cp.az (ai : Fin 3) : Cp := .inr (.inr (.inl ai))
@[match_pattern] abbrev Cp.b (bi : Fin 5) (o : Fin 3) : Cp := .inr (.inr (.inr (bi, o)))

instance : DecidableEq Cp := inferInstance

/-- The position of the peer a copy goes to. -/
def dir : Cp → Fin 4
  | .zb _ => 0 | .a _ o => o.succ | .az _ => 0 | .b _ o => o.succ
/-- The semaphore its departure credits; -/
def sndS : Cp → DmaSem sig
  | .zb bi => zbS bi | .a ai o => aS ai o | .az ai => azS ai | .b bi o => bS bi o
/-- its arrival. -/
def rcvS : Cp → DmaSem sig
  | .zb bi => zbV bi | .a ai o => aV ai o | .az ai => azV ai | .b bi o => bV bi o
/-- By how much. -/
def amt : Cp → ℕ
  | .zb bi => (zbSlot zbrM bi).view.dmaCredit
  | .a ai o => (aSlot arecvM ai o).view.dmaCredit
  | .az ai => (azSlot azrM ai).view.dmaCredit
  | .b bi o => (bSlot brecvM bi o).view.dmaCredit
/-- The rank of its arrival in the order of waits. -/
def rank : Cp → ℕ
  | .zb _ => 2 | .a _ _ => 2 | .az _ => 3 | .b _ _ => 3

theorem amt_pos (κ : Cp) : 0 < amt κ := by
  rcases κ with bi | ⟨ai, o⟩ | ai | ⟨bi, o⟩ <;> exact View.dmaCredit_pos _ (by decide)

/-- A device's semaphores of the protocol: the barrier, the departures, the arrivals. -/
abbrev Cell : Type := Unit ⊕ Cp ⊕ Cp
@[match_pattern] abbrev Cell.bar : Cell := .inl ()
@[match_pattern] abbrev Cell.snd (κ : Cp) : Cell := .inr (.inl κ)
@[match_pattern] abbrev Cell.rcv (κ : Cp) : Cell := .inr (.inr κ)

set_option synthInstance.maxSize 1000 in
instance : DecidableEq Cell := inferInstance

def csem : Cell → SemLoc sig
  | .bar => .reg barS | .snd κ => .dma (sndS κ) | .rcv κ => .dma (rcvS κ)

/-- Which of the protocol's semaphores a semaphore is. -/
def role : SemLoc sig → Option Cell
  | .reg _ => some .bar
  | .dma q =>
    if q.val < 3 then none
    else if h : q.val < 12 then some (.snd (.a ⟨(q.val - 3) / 3, by omega⟩ ⟨(q.val - 3) % 3, by omega⟩))
    else if h : q.val < 21 then some (.rcv (.a ⟨(q.val - 12) / 3, by omega⟩ ⟨(q.val - 12) % 3, by omega⟩))
    else if h : q.val < 24 then some (.snd (.az ⟨q.val - 21, by omega⟩))
    else if h : q.val < 27 then some (.rcv (.az ⟨q.val - 24, by omega⟩))
    else if h : q.val < 32 then some (.snd (.zb ⟨q.val - 27, by omega⟩))
    else if h : q.val < 37 then some (.rcv (.zb ⟨q.val - 32, by omega⟩))
    else if h : q.val < 52 then some (.snd (.b ⟨(q.val - 37) / 3, by omega⟩ ⟨(q.val - 37) % 3, by omega⟩))
    else some (.rcv (.b ⟨(q.val - 52) / 3, by have := q.isLt; simp only [sig] at this; omega⟩ ⟨(q.val - 52) % 3, by omega⟩))

theorem role_csem : ∀ k : Cell, role (csem k) = some k := by
  rintro (_ | (bi | ⟨ai, o⟩ | ai | ⟨bi, o⟩) | (bi | ⟨ai, o⟩ | ai | ⟨bi, o⟩))
  · rfl
  · fin_cases bi <;> rfl
  · fin_cases ai <;> fin_cases o <;> rfl
  · fin_cases ai <;> rfl
  · fin_cases bi <;> fin_cases o <;> rfl
  · fin_cases bi <;> rfl
  · fin_cases ai <;> fin_cases o <;> rfl
  · fin_cases ai <;> rfl
  · fin_cases bi <;> fin_cases o <;> rfl
theorem csem_injective : Function.Injective csem := fun a b h =>
  Option.some.inj ((role_csem a).symm.trans ((congrArg role h).trans (role_csem b)))

abbrev kcell (ck : Dev nD × Cell) : GSem nD τ sig := ((ck.1 : Thread nD τ), csem ck.2)
abbrev barCell (c : Dev nD) : GSem nD τ sig := kcell (c, .bar)
abbrev sndCell (κ : Cp) (c : Dev nD) : GSem nD τ sig := kcell (c, .snd κ)
abbrev rcvCell (κ : Cp) (c : Dev nD) : GSem nD τ sig := kcell (c, .rcv κ)

theorem kcell_injective : Function.Injective (kcell : Dev nD × Cell → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

/-! ## The resources -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- Device `c` holds the elements `S` of a buffer at contents `f`. -/
def valAt (c : Dev nD) (b : Ref sig .tc) (S : Finset (Idx ((c : Thread nD τ).loc b))) (f : Buf (Elt F) ((c : Thread nD τ).loc b)) : sProp 𝕄 :=
  ((c : Thread nD τ).loc b) ↦[S]{fullShare} f
/-- At some contents. -/
def anyAt (c : Dev nD) (b : Ref sig .tc) (S : Finset (Idx ((c : Thread nD τ).loc b))) : sProp 𝕄 := iprop(∃ f, valAt (F := F) c b S f)

instance valAt_storable (c : Dev nD) (b S f) : BI.Storable (upEmb : UEmb _ 𝕄) (valAt (F := F) c b S f) := by unfold valAt; infer_instance
instance anyAt_storable (c : Dev nD) (b S) : BI.Storable (upEmb : UEmb _ 𝕄) (anyAt (F := F) c b S) := by unfold anyAt; infer_instance

theorem valAt_any (c : Dev nD) (b S f) : valAt (F := F) c b S f ⊢ anyAt (F := F) c b S := by
  unfold anyAt; iintro H; iexists f; iexact H

/-- A copy's source slot at any contents; -/
def srcAny : Cp → Dev nD → sProp 𝕄
  | .zb bi, c => anyAt (F := F) c cc0_scratch6 (zbR bi).set
  | .a ai o, c => anyAt (F := F) c cc0_scratch1 (aR ai o).set
  | .az ai, c => anyAt (F := F) c cc0_scratch4 (azR ai).set
  | .b bi o, c => anyAt (F := F) c cc0_scratch9 (bR bi o).set
/-- its landing slot at any contents. -/
def dstAny : Cp → Dev nD → sProp 𝕄
  | .zb bi, c => anyAt (F := F) c cc0_scratch7 (zbR bi).set
  | .a ai o, c => anyAt (F := F) c cc0_scratch2 (aR ai o).set
  | .az ai, c => anyAt (F := F) c cc0_scratch5 (azR ai).set
  | .b bi o, c => anyAt (F := F) c cc0_scratch10 (bR bi o).set

instance srcAny_storable (κ : Cp) (c : Dev nD) : BI.Storable (upEmb : UEmb _ 𝕄) (srcAny (F := F) κ c) := by
  rcases κ with bi | ⟨ai, o⟩ | ai | ⟨bi, o⟩ <;> exact anyAt_storable _ _ _
instance dstAny_storable (κ : Cp) (c : Dev nD) : BI.Storable (upEmb : UEmb _ 𝕄) (dstAny (F := F) κ c) := by
  rcases κ with bi | ⟨ai, o⟩ | ai | ⟨bi, o⟩ <;> exact anyAt_storable _ _ _

variable (X : Dev nD → Vec F S512x512 .f32) (Y : Dev nD → Vec F S512x2048 .f32)

/-- The source slot, filled; -/
def srcVal : Cp → Dev nD → sProp 𝕄
  | .zb bi, c => valAt c cc0_scratch6 (zbR bi).set (zbsG X Y c)
  | .a ai o, c => valAt c cc0_scratch1 (aR ai o).set (abufG X Y c)
  | .az ai, c => valAt c cc0_scratch4 (azR ai).set (azsG X Y c)
  | .b bi o, c => valAt c cc0_scratch9 (bR bi o).set (bbufG X Y c)
/-- the landing slot, landed. -/
def dstVal : Cp → Dev nD → sProp 𝕄
  | .zb bi, c => valAt c cc0_scratch7 (zbR bi).set (zbrG X Y c)
  | .a ai o, c => valAt c cc0_scratch2 (aR ai o).set (arecvG X Y c)
  | .az ai, c => valAt c cc0_scratch5 (azR ai).set (azrG X Y c)
  | .b bi o, c => valAt c cc0_scratch10 (bR bi o).set (brecvG X Y c)

instance dstVal_storable (κ : Cp) (c : Dev nD) : BI.Storable (upEmb : UEmb _ 𝕄) (dstVal X Y κ c) := by
  rcases κ with bi | ⟨ai, o⟩ | ai | ⟨bi, o⟩ <;> exact valAt_storable _ _ _ _

theorem srcVal_any (κ : Cp) (c : Dev nD) : srcVal X Y κ c ⊢ srcAny κ c := by
  rcases κ with bi | ⟨ai, o⟩ | ai | ⟨bi, o⟩ <;> exact valAt_any _ _ _ _
theorem dstVal_any (κ : Cp) (c : Dev nD) : dstVal X Y κ c ⊢ dstAny κ c := by
  rcases κ with bi | ⟨ai, o⟩ | ai | ⟨bi, o⟩ <;> exact valAt_any _ _ _ _

/-! ## The schedule -/

/-- What the peer at position `d` hands device `n` with its signal: its landing slots of the copies `n` sends it. -/
def barPay (n : Dev nD) (d : Fin 4) : sProp 𝕄 :=
  bigSep Finset.univ fun κ : Cp => if dir κ = d then dstAny (F := F) κ (tgt n d) else iprop(emp)

instance barPay_storable (n : Dev nD) (d : Fin 4) : BI.Storable (upEmb : UEmb _ 𝕄) (barPay (F := F) n d) := by
  have (κ : Cp) : BI.Storable (upEmb : UEmb _ 𝕄) (if dir κ = d then dstAny (F := F) κ (tgt n d) else iprop(emp)) := by split <;> infer_instance
  unfold barPay; infer_instance

/-- One round: the barrier has a duty of one unit for each peer, a departure or an arrival one duty of the copy's amount. -/
def sched : Rounds.Schedule (GSem nD τ sig) (Fin 4) 𝕄 where
  duties g r := if r = 0 ∧ g.1.2 = .tc then
      match role g.2 with | none => ∅ | some .bar => Finset.univ | some _ => {0}
    else ∅
  unitless _ := False
  amount g _ _ := match role g.2 with | some (.snd κ) => amt κ | some (.rcv κ) => amt κ | _ => 1
  payload g _ d := match role g.2 with
    | some .bar => barPay g.1.1 d
    | some (.snd κ) => srcAny κ g.1.1
    | some (.rcv κ) => dstVal X Y κ g.1.1
    | none => iprop(emp)
  amount_pos g _ _ _ := by
    split
    · exact amt_pos _
    · exact amt_pos _
    · exact Nat.one_pos

instance sched_payload_storable (g : GSem nD τ sig) (r : ℕ) (d : Fin 4) :
    BI.Storable (upEmb : UEmb _ 𝕄) ((sched X Y).payload g r d) := by
  unfold sched; dsimp only
  split <;> infer_instance

section Tables
variable (c : Dev nD) (κ : Cp)

theorem duties_bar : (sched X Y).duties (barCell c) 0 = Finset.univ := by
  dsimp only [sched]; rw [if_pos ⟨rfl, rfl⟩, role_csem]
theorem duties_snd : (sched X Y).duties (sndCell κ c) 0 = {0} := by
  dsimp only [sched]; rw [if_pos ⟨rfl, rfl⟩, role_csem]
theorem duties_rcv : (sched X Y).duties (rcvCell κ c) 0 = {0} := by
  dsimp only [sched]; rw [if_pos ⟨rfl, rfl⟩, role_csem]
theorem duties_later (g : GSem nD τ sig) : ∀ r, 1 ≤ r → (sched X Y).duties g r = ∅ :=
  fun r hr => by dsimp only [sched]; rw [if_neg fun h => by omega]
theorem amount_bar (d : Fin 4) : (sched X Y).amount (barCell c) 0 d = 1 := by dsimp only [sched]; rw [role_csem]
theorem amount_snd (d : Fin 4) : (sched X Y).amount (sndCell κ c) 0 d = amt κ := by dsimp only [sched]; rw [role_csem]
theorem amount_rcv (d : Fin 4) : (sched X Y).amount (rcvCell κ c) 0 d = amt κ := by dsimp only [sched]; rw [role_csem]
theorem expect_bar : (sched X Y).expect (barCell c) 0 = 4 := by
  unfold Schedule.expect Schedule.amountOf
  rw [duties_bar, Finset.sum_congr rfl fun d _ => amount_bar X Y c d, Finset.sum_const, Finset.card_univ, Fintype.card_fin, smul_eq_mul]
theorem expect_snd : (sched X Y).expect (sndCell κ c) 0 = amt κ := by
  unfold Schedule.expect Schedule.amountOf; rw [duties_snd, Finset.sum_singleton, amount_snd]
theorem expect_rcv : (sched X Y).expect (rcvCell κ c) 0 = amt κ := by
  unfold Schedule.expect Schedule.amountOf; rw [duties_rcv, Finset.sum_singleton, amount_rcv]
theorem payload_bar (d : Fin 4) : (sched X Y).payload (barCell c) 0 d = barPay c d := by dsimp only [sched]; rw [role_csem]
theorem payload_snd (d : Fin 4) : (sched X Y).payload (sndCell κ c) 0 d = srcAny κ c := by dsimp only [sched]; rw [role_csem]
theorem payload_rcv (d : Fin 4) : (sched X Y).payload (rcvCell κ c) 0 d = dstVal X Y κ c := by dsimp only [sched]; rw [role_csem]

/-- Sorting the copies by direction, and back. -/
theorem by_dir (Φ : Fin 4 → Cp → sProp 𝕄) :
    (bigSep Finset.univ fun d : Fin 4 => bigSep Finset.univ fun κ : Cp => if dir κ = d then Φ d κ else iprop(emp))
      = bigSep Finset.univ fun κ : Cp => Φ (dir κ) κ := by
  rw [bigSep_univ_comm]
  refine bigSep_congr fun κ _ => ?_
  rw [bigSep_univ_at _ (dir κ), if_pos rfl, bigSep_congr (Ψ := fun _ => iprop(emp)) fun d hd => if_neg fun h => (Finset.mem_erase.mp hd).1 h.symm,
    show (bigSep (Finset.univ.erase (dir κ)) fun _ => (iprop(emp) : sProp 𝕄)) = iprop(emp) from bigSep_emp_const _]
  exact equiv_iff.mp BI.sep_emp

theorem rest_bar : bigSep ((sched X Y).duties (barCell c) 0 \ ∅) (fun d => (sched X Y).payload (barCell c) 0 d)
    = bigSep Finset.univ fun κ : Cp => dstAny (F := F) κ (tgt c (dir κ)) := by
  rw [Finset.sdiff_empty, duties_bar, bigSep_congr fun d _ => payload_bar X Y c d]
  exact by_dir fun d κ => dstAny κ (tgt c d)
theorem rest_snd : bigSep ((sched X Y).duties (sndCell κ c) 0 \ ∅) (fun d => (sched X Y).payload (sndCell κ c) 0 d) = srcAny κ c := by
  rw [Finset.sdiff_empty, duties_snd, bigSep_singleton, payload_snd]
theorem rest_rcv : bigSep ((sched X Y).duties (rcvCell κ c) 0 \ ∅) (fun d => (sched X Y).payload (rcvCell κ c) 0 d) = dstVal X Y κ c := by
  rw [Finset.sdiff_empty, duties_rcv, bigSep_singleton, payload_rcv]

end Tables

/-! ## What each device owes -/

/-- Device `c` owes the arrivals of the copies `l` it has not issued yet; -/
def owed (c : Dev nD) : List Cp → CellTallies nD τ sig Unit
  | [] => 0
  | κ :: l => owed c l + tallyAt (rcvCell κ (tgt c (dir κ))) () (amt κ)

/-- The copies, in the order a device issues them. -/
def copies : List Cp :=
  l5.map .zb ++ (l3.flatMap fun ai => l3.map fun o => Cp.a ai o) ++ l3.map .az ++ (l5.flatMap fun bi => l3.map fun o => Cp.b bi o)

theorem copies_nodup : copies.Nodup := by decide +kernel
theorem copies_univ : copies.toFinset = Finset.univ := by decide +kernel
theorem mem_copies (κ : Cp) : κ ∈ copies := List.mem_toFinset.mp (copies_univ ▸ Finset.mem_univ κ)

/-- before its entry signals `l`, those and all the copies. -/
def owed₁ (c : Dev nD) : List (Fin 4) → CellTallies nD τ sig Unit
  | [] => owed c copies
  | k :: l => owed₁ c l + tallyAt (barCell (sigDev k c)) () 1

def O₀ (c : Dev nD) : CellTallies nD τ sig Unit := owed₁ c [0, 1, 2, 3]

/-- Waits are on TensorCores only, -/
def L (g : GSem nD τ sig) : Finset Unit := if g.1.2 = .tc then {()} else ∅
/-- and ordered: the barrier before the arrivals, these by rank. -/
def lv (g : GSem nD τ sig) (_ : Unit) : ℕ :=
  match role g.2 with | some .bar => 1 | some (.rcv κ) => rank κ | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [role_csem]
theorem lv_rcv (κ : Cp) (c : Dev nD) : lv (rcvCell κ c) () = rank κ := by unfold lv; rw [role_csem]
theorem rank_two (κ : Cp) : 2 ≤ rank κ := by revert κ; decide +kernel

theorem owed_pos {c : Dev nD} {l : List Cp} {g : GSem nD τ sig} {u : Unit} (h : 0 < owed c l g u) : ∃ κ ∈ l, g = rcvCell κ (tgt c (dir κ)) := by
  induction l with
  | nil => exact absurd h (Nat.lt_irrefl 0)
  | cons κ l ih =>
    unfold owed at h
    rw [Pi.add_apply, Finsupp.add_apply, tallyAt_apply] at h
    by_cases hg : g = rcvCell κ (tgt c (dir κ)) ∧ u = ()
    · exact ⟨κ, List.mem_cons_self, hg.1⟩
    · rw [if_neg hg, Nat.add_zero] at h
      obtain ⟨κ', hm, e⟩ := ih h
      exact ⟨κ', List.mem_cons_of_mem _ hm, e⟩

theorem owed₁_pos {c : Dev nD} {l : List (Fin 4)} {g : GSem nD τ sig} {u : Unit} (h : 0 < owed₁ c l g u) :
    (∃ κ, g = rcvCell κ (tgt c (dir κ))) ∨ ∃ n, g = barCell n := by
  induction l with
  | nil => obtain ⟨κ, _, e⟩ := owed_pos h; exact .inl ⟨κ, e⟩
  | cons k l ih =>
    unfold owed₁ at h
    rw [Pi.add_apply, Finsupp.add_apply, tallyAt_apply] at h
    by_cases hg : g = barCell (sigDev k c) ∧ u = ()
    · exact .inr ⟨_, hg.1⟩
    · rw [if_neg hg, Nat.add_zero] at h
      exact ih h

/-- A device may wait on a semaphore ranked below every arrival it still owes. -/
theorem mayWait_owed (c : Dev nD) (sm : SemLoc sig) (l : List Cp) (h : ∀ κ ∈ l, lv ((c : Thread nD τ), sm) () < rank κ) :
    (levAts L lv : sProp 𝕄) ⊢ MayWait (c : Thread nD τ) sm () (owed c l) :=
  MayOwe.of_cut (L := L) (lev := lv) (lv ((c : Thread nD τ), sm) ())
    (fun p hp => by rw [Finset.mem_singleton.mp hp, L_tc]; exact Finset.mem_singleton_self _)
    (fun g u hg => by obtain ⟨κ, _, rfl⟩ := owed_pos hg; exact Finset.mem_singleton_self _)
    (fun p hp => by rw [Finset.mem_singleton.mp hp])
    (fun g u hg => by obtain ⟨κ, hm, rfl⟩ := owed_pos hg; cases u; rw [lv_rcv]; exact h κ hm)

theorem mayWait_stage (c : Dev nD) (q : DmaSem sig) (hq : q.val < 3) (O : CellTallies nD τ sig Unit) (hO : O = O₀ c ∨ O = 0) :
    (levAts L lv : sProp 𝕄) ⊢ MayWait (c : Thread nD τ) (.dma q) () O := by
  have h0 : lv ((c : Thread nD τ), .dma q) () = 0 := by
    unfold lv; rw [show role (.dma q) = none from if_pos hq]
  rcases hO with rfl | rfl
  · refine MayOwe.of_cut (L := L) (lev := lv) 0 (fun p hp => by rw [Finset.mem_singleton.mp hp, L_tc]; exact Finset.mem_singleton_self _)
      (fun g u hg => by rcases owed₁_pos hg with ⟨κ, rfl⟩ | ⟨n, rfl⟩ <;> exact Finset.mem_singleton_self _)
      (fun p hp => by rw [Finset.mem_singleton.mp hp]; exact h0.le)
      (fun g u hg => by
        cases u
        rcases owed₁_pos hg with ⟨κ, rfl⟩ | ⟨n, rfl⟩
        · rw [lv_rcv]; exact lt_of_lt_of_le Nat.two_pos (rank_two κ)
        · rw [lv_bar]; exact Nat.one_pos)
  · rw [MayWait_zero]; iintro -; iempintro

end Cert.Dot

end
-- ==== Proof.Rules.lean ====
/-
Rules for the steps: triples over the records of the protocol, the rule for a step repeated along a list, loads and
stores of a slot, the copies and the waits.
-/
module

public import proofs.«01_k».proof.Proof.Sched
public import Idealize.ShloMosaic.Lib.Tactic

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The run of a program on device `c` to a postcondition. -/
abbrev run (c : Dev nD) {α : Type} (m : P F α) (Q : α → sProp 𝕄) : sProp 𝕄 :=
  wp frame (wpE (defs₀ (F := F)) 𝒱₀ (c : Thread nD τ) none) Set.univ m Q

variable (X : Dev nD → Vec F S512x512 .f32) (Y : Dev nD → Vec F S512x2048 .f32) (K : Dev nD × Cell → ℕ)

/-- What every device knows: each semaphore's protocol, that each has reached its first round, the order of the waits. -/
def known : sProp 𝕄 :=
  iprop((bigSep Finset.univ fun ck : Dev nD × Cell => cellInv ER (sched X Y) (K ck) (kcell ck))
    ∗ (bigSep Finset.univ fun ck : Dev nD × Cell => reached ER (kcell ck) 0) ∗ levAts L lv)

instance known_persistent : BI.Persistent (known X Y K) := by unfold known; infer_instance

theorem known_inv (ck : Dev nD × Cell) : known X Y K ⊢ cellInv ER (sched X Y) (K ck) (kcell ck) := by
  have h : (bigSep Finset.univ fun ck : Dev nD × Cell => (cellInv ER (sched X Y) (K ck) (kcell ck) : sProp 𝕄)) ⊢ cellInv ER (sched X Y) (K ck) (kcell ck) :=
    bigSep_elim (Finset.mem_univ ck)
  unfold known
  iintro ⟨H, -⟩
  iapply h; iexact H
theorem known_reached (ck : Dev nD × Cell) : known X Y K ⊢ (reached ER (kcell ck) 0 : sProp 𝕄) := by
  have h : (bigSep Finset.univ fun ck : Dev nD × Cell => (reached ER (kcell ck) 0 : sProp 𝕄)) ⊢ reached ER (kcell ck) 0 :=
    bigSep_elim (Finset.mem_univ ck)
  unfold known
  iintro ⟨-, H, -⟩
  iapply h; iexact H
theorem known_lev : known X Y K ⊢ (levAts L lv : sProp 𝕄) := by unfold known; iintro ⟨-, -, H⟩; iexact H

/-! ## Triples -/

variable (c : Dev nD)

/-- From `A`, with what every device knows, the program runs to `B`. -/
def T (A : sProp 𝕄) (m : P F PUnit) (B : sProp 𝕄) : Prop := iprop(known X Y K ∗ A) ⊢ run c m fun _ => B

variable {X Y K c}

theorem T.seq {A B C : sProp 𝕄} {m m' : P F PUnit} (h : T X Y K c A m B) (h' : T X Y K c B m' C) : T X Y K c A (m >>= fun _ => m') C := by
  unfold T at *
  rw [run, wp_bind]
  iintro ⟨#HK, HA⟩
  iapply (wp_wand frame (wpE (defs₀ (F := F)) 𝒱₀ (c : Thread nD τ) none) Set.univ (p := m) (Q := fun _ => B)) $$ [HA]
  · iapply h; isplitr; · iexact HK
    iexact HA
  iintro %a HB
  iapply h'; isplitr; · iexact HK
  iexact HB

theorem T.cons {A A' B B' : sProp 𝕄} {m : P F PUnit} (h : T X Y K c A m B) (hA : A' ⊢ A) (hB : B ⊢ B') : T X Y K c A' m B' := by
  unfold T at *
  exact (sep_mono_right hA).trans (h.trans (wp_mono _ _ _ fun _ => hB))

theorem T.frame {A B : sProp 𝕄} {m : P F PUnit} (h : T X Y K c A m B) (R : sProp 𝕄) : T X Y K c iprop(A ∗ R) m iprop(B ∗ R) := by
  unfold T at *
  iintro ⟨#HK, HA, HR⟩
  iapply (wp_frame_r _ (wpE (defs₀ (F := F)) 𝒱₀ (c : Thread nD τ) none) Set.univ)
  isplitr [HR]
  · iapply h; isplitr; · iexact HK
    iexact HA
  · iexact HR

theorem T.pure {A : sProp 𝕄} : T X Y K c A (pure ⟨⟩) A := by
  unfold T
  rw [show (Pure.pure ⟨⟩ : P F PUnit) = .ret ⟨⟩ from rfl, run, wp_ret]
  iintro ⟨-, HA⟩; imodintro; iexact HA

/-- A step for each element of a list: each takes its element's resources from `A` to `B`, and what they share along
    the list. -/
theorem T.forL {α : Type} [DecidableEq α] {f : α → P F PUnit} {A B : α → sProp 𝕄} {J : List α → sProp 𝕄}
    (h : ∀ a l, T X Y K c iprop(A a ∗ J (a :: l)) (f a) iprop(B a ∗ J l)) (l : List α) (hl : l.Nodup) :
    T X Y K c iprop(bigSep l.toFinset A ∗ J l) (Dot.forL l f) iprop(bigSep l.toFinset B ∗ J []) := by
  induction l with
  | nil => exact T.pure
  | cons a l ih =>
    obtain ⟨ha, hl⟩ := List.nodup_cons.mp hl
    have ha' : a ∉ l.toFinset := fun h => ha (List.mem_toFinset.mp h)
    rw [List.toFinset_cons, show bigSep (insert a l.toFinset) A = iprop(A a ∗ bigSep l.toFinset A) from bigSep_insert ha',
      show bigSep (insert a l.toFinset) B = iprop(B a ∗ bigSep l.toFinset B) from bigSep_insert ha']
    refine T.seq (B := iprop((B a ∗ J l) ∗ bigSep l.toFinset A)) (((h a l).frame (bigSep l.toFinset A)).cons ?_ .rfl)
      (((ih hl).frame (B a)).cons ?_ ?_)
    · iintro ⟨⟨H1, H2⟩, H3⟩
      isplitr [H2]
      · isplitl [H1] <;> iassumption
      · iexact H2
    · iintro ⟨⟨H1, H2⟩, H3⟩
      isplitr [H1]
      · isplitl [H3] <;> iassumption
      · iexact H1
    · iintro ⟨⟨H1, H2⟩, H3⟩
      isplitr [H2]
      · isplitl [H3] <;> iassumption
      · iexact H2

/-! ## Loads and stores of a slot -/

section Access
variable {cs : CoreSpace} {s : Shape} {e : EltTy} (M : Memref sig .tc cs s e) (r : Rect s)

/-- A load of a slot reads its contents. -/
theorem run_load {α : Type} {Q : α → sProp 𝕄} {hl : M.view.LoadsAt r.toLoadRect} {k : (r.shape.Idx → Elt F e) → P F α} {S : Finset (Idx (M.view.loc (c : Thread nD τ)))}
    {G : Buf (Elt F) (M.view.loc (c : Thread nD τ))} (hS : M.view.setOn r.set ⊆ S) (v : r.shape.Idx → Elt F e) (hv : M.view.readAt (Elt F) r.toLoadRect G = v) :
    valAt c M.view.ref S G ⊢ iprop((valAt c M.view.ref S G -∗ run c (k v) Q) -∗ run c (.op (.load M r.toLoadRect hl) k) Q) := by
  subst hv
  exact wp_load 𝒱₀ (c : Thread nD τ) none Set.univ (m := M) hS

/-- A load whose value is not used. -/
theorem run_load_any {α : Type} {Q : α → sProp 𝕄} {hl : M.view.LoadsAt r.toLoadRect} {k : P F α} {S : Finset (Idx (M.view.loc (c : Thread nD τ)))} (hS : M.view.setOn r.set ⊆ S) :
    anyAt c M.view.ref S ⊢ iprop((anyAt c M.view.ref S -∗ run c k Q) -∗ run c (.op (.load M r.toLoadRect hl) fun _ => k) Q) := by
  unfold anyAt
  iintro ⟨%f, H⟩ Hk
  iapply (run_load M r (k := fun _ => k) (G := f) hS _ rfl) $$ H
  iintro H
  iapply Hk; iexists f; iexact H

/-- A store that fills a slot with the contents `G`. -/
theorem run_store {α : Type} {Q : α → sProp 𝕄} {w : r.shape.Idx → Elt F e} {hx : (M.access r).Stores Finset.univ} {hm} {k : PUnit → P F α} {S : Finset (Idx (M.view.loc (c : Thread nD τ)))}
    (G : Buf (Elt F) (M.view.loc (c : Thread nD τ))) (hS : (M.access r).setOn Finset.univ = S)
    (hw : ∀ j, (M.access r).read (Elt F) G j = w j) :
    anyAt c M.view.ref S ⊢ iprop((valAt c M.view.ref S G -∗ run c (k ⟨⟩) Q) -∗ run c (.op (.store M r w Finset.univ hx hm) k) Q) := by
  subst hS
  unfold anyAt
  iintro ⟨%f, H⟩ Hk
  unfold valAt
  iapply (wp_store 𝒱₀ (c : Thread nD τ) none Set.univ (m := M) (r := r) (w := w) (Mk := Finset.univ) (hx := hx) (hm := hm) (k := k) (f := f) (le_refl _)) $$ H
  iintro H
  iapply Hk
  have e : ∀ i ∈ (M.access r).setOn Finset.univ, (M.access r).write (Elt F) f w Finset.univ i = G i := fun i hi => by
    obtain ⟨j, -, rfl⟩ := Finset.mem_map.mp hi
    rw [View.write_emb_of_mem _ _ (Finset.mem_univ j), ← hw j, View.read_apply, cast_cast, cast_eq]
  iapply (Entails.of_eq (pointsTo_congr e)) $$ H

end Access

/-! ## Copies -/

/-- Device `c` can issue the copy `κ`: it has the landing slot at the receiver and the two duties of the copy, and has
    not waited for its departure. -/
def ready (κ : Cp) (c : Dev nD) : sProp 𝕄 :=
  iprop(dstAny κ (tgt c (dir κ)) ∗ dutyTok ER (sndCell κ c) 0 0 ∗ dutyTok ER (rcvCell κ (tgt c (dir κ))) 0 0 ∗ atPos ER (sndCell κ c) 0 ∅ 0)
/-- It has issued it; -/
def sent (κ : Cp) (c : Dev nD) : sProp 𝕄 := iprop(cred (tallyAt (sndCell κ c) () (amt κ)) ∗ atPos ER (sndCell κ c) 0 ∅ 0)
/-- and it has departed: the source slot is back. -/
def gone (κ : Cp) (c : Dev nD) : sProp 𝕄 := iprop(srcAny κ c ∗ atPos ER (sndCell κ c) 1 ∅ 0)
/-- Device `c` can wait for the copy `κ` of its peer; -/
def await (κ : Cp) (c : Dev nD) : sProp 𝕄 := iprop(cred (tallyAt (rcvCell κ c) () (amt κ)) ∗ atPos ER (rcvCell κ c) 0 ∅ 0)
/-- its landing slot holds what was sent. -/
def got (X : Dev nD → Vec F S512x512 .f32) (Y : Dev nD → Vec F S512x2048 .f32) (κ : Cp) (c : Dev nD) : sProp 𝕄 :=
  iprop(dstVal X Y κ c ∗ atPos ER (rcvCell κ c) 1 ∅ 0)
/-- Device `c` owes the arrivals of the copies `l`. -/
def ow (c : Dev nD) (l : List Cp) : sProp 𝕄 := iprop(∃ W, owes (c : Thread nD τ) (owed c l) W)

/-- Issuing a copy of a filled slot. -/
theorem T.send (κ : Cp) {sp sp' : Space} {s : Shape} {e : EltTy} {src : Memref sig .tc sp s e} {dst : Memref sig .tc sp' s e} (n : Dev nD) (hn : n = tgt c (dir κ))
    {hsc : (dst : Memref sig (Dev.tc n : Thread nD τ).2.kind sp' s e).view.ref.isScScratch = false} {hsrc : src.view.WordExact} {hdst : dst.view.WordExact}
    {hsem : DmaTarget.Typed sp (.dma (rcvS κ)) (.remote (Dev.tc n : Thread nD τ) dst (.dma (sndS κ)) hsc)}
    (hN : dst.view.dmaCredit = amt κ) (fs : Buf (Elt F) (src.view.loc (c : Thread nD τ))) (l : List Cp)
    (hs : srcVal X Y κ c = (src.view.loc (c : Thread nD τ) ↦[src.view.set]{fullShare} fs))
    (hd : dstAny (F := F) κ (tgt c (dir κ)) = anyAt (F := F) (tgt c (dir κ)) dst.view.ref dst.view.set)
    (hl : ∀ fd, (dst.view.loc (tgt c (dir κ) : Thread nD τ) ↦[dst.view.set]{fullShare} dst.view.write (Elt F) fd (src.view.read (Elt F) fs) Finset.univ)
      ⊢ dstVal X Y κ (tgt c (dir κ))) :
    T X Y K c iprop((srcVal X Y κ c ∗ ready κ c) ∗ ow c (κ :: l))
      (Prog.lift (.enqueueDma src (.remote (Dev.tc n : Thread nD τ) dst (.dma (sndS κ)) hsc) (.dma (rcvS κ)) hsrc hdst hsem))
      iprop(sent κ c ∗ ow c l) := by
  subst hn
  unfold T ready sent ow
  rw [hd]
  unfold anyAt valAt
  simp only [Prog.lift]
  iintro ⟨#HK, ⟨Hs, ⟨%fd, Hd⟩, HtS, HtV, HaS⟩, ⟨%W, HO⟩⟩
  ihave Hs := (Entails.of_eq hs) $$ Hs
  iapply (Rounds.wp_send_pointsTo 𝒱₀ ER (sched X Y) (c : Thread nD τ) none (κ₁ := K (c, .snd κ)) (κ₂ := K (tgt c (dir κ), .rcv κ))
    (r₁ := 0) (r₂ := 0) (d₁ := 0) (d₂ := 0) (fd := fd)
    ((duties_snd X Y c κ).symm ▸ Finset.mem_singleton_self _ : (0 : Fin 4) ∈ (sched X Y).duties (sndCell κ c) 0)
    ((duties_rcv X Y (tgt c (dir κ)) κ).symm ▸ Finset.mem_singleton_self _ : (0 : Fin 4) ∈ (sched X Y).duties (rcvCell κ (tgt c (dir κ))) 0)
    () () (amt κ) (show dst.view.amount (.dma (rcvS κ)) = amt κ from hN) (amount_snd X Y c κ 0) (amount_rcv X Y (tgt c (dir κ)) κ 0) (owed c l) rfl (W := W)
    ((Entails.of_eq hs.symm).trans ((srcVal_any X Y κ c).trans (Entails.of_eq (payload_snd X Y c κ 0).symm)))
    ((hl fd).trans (Entails.of_eq (payload_rcv X Y (tgt c (dir κ)) κ 0).symm))) $$ [Hs Hd HO HtS HtV]
  · isplitr; · iapply (known_inv X Y K (c, .snd κ)); iexact HK
    isplitr; · iapply (known_inv X Y K (tgt c (dir κ), .rcv κ)); iexact HK
    isplitl [Hs]; · iexact Hs
    isplitl [Hd]; · iexact Hd
    isplitl [HO]; · iexact HO
    isplitl [HtS]; · iexact HtS
    isplitr; · iapply (known_reached X Y K (c, .snd κ)); iexact HK
    isplitl [HtV]; · iexact HtV
    iapply (known_reached X Y K (tgt c (dir κ), .rcv κ)); iexact HK
  iintro ⟨Hc, HO⟩
  rw [wp_ret]; imodintro
  isplitl [Hc HaS]
  · isplitl [Hc] <;> iassumption
  · iexists W; iexact HO

/-- The wait for a copy's arrival, owing later ones only. -/
theorem T.arrive (κ : Cp) {sp sp' : Space} {s s' : Shape} {e e' : EltTy} {src : Memref sig .tc sp s e} {dst : Memref sig .tc sp' s' e'}
    {h₁ : src.view.WordExact} {h₂ : dst.view.WordExact} (l : List Cp)
    (hN : dst.view.dmaCredit = amt κ) (hl : ∀ κ' ∈ l, rank κ < rank κ') :
    T X Y K c iprop(await κ c ∗ ow c l) (Prog.lift (.waitDma2 (rcvS κ) src dst h₁ h₂)) iprop(got X Y κ c ∗ ow c l) := by
  unfold T await got ow
  simp only [Prog.lift]
  iintro ⟨#HK, ⟨Hc, Ha⟩, ⟨%W, HO⟩⟩
  iapply (Rounds.wp_wait_rest_token 𝒱₀ ER (sched X Y) (c : Thread nD τ) none (κ := K (c, .rcv κ))
      (wpE_waitDma2_eq 𝒱₀ (c : Thread nD τ) none Set.univ) (Set.mem_univ _) () (O := owed c l) (W := W) (R := 0) (m := 0) (T := ∅)
      (by rw [Nat.zero_add]; exact hN.trans (expect_rcv X Y c κ).symm)) $$ [Hc HO Ha]
  · isplitr; · iapply (known_inv X Y K (c, .rcv κ)); iexact HK
    isplitl [Hc]; · rw [hN]; iexact Hc
    isplitl [HO]; · iexact HO
    isplitr
    · iapply (mayWait_owed c (.dma (rcvS κ)) l fun κ' h => by rw [show lv ((c : Thread nD τ), .dma (rcvS κ)) () = rank κ from lv_rcv κ c]; exact hl κ' h)
      iapply (known_lev X Y K); iexact HK
    iexact Ha
  iintro ⟨HO, Ha, -, Hp⟩
  ihave Hp := (show bigSep ((sched X Y).duties ((c : Thread nD τ), .dma (rcvS κ)) 0 \ ∅) (fun d => (sched X Y).payload ((c : Thread nD τ), .dma (rcvS κ)) 0 d) ⊢ _ from
    Entails.of_eq (rest_rcv X Y c κ)) $$ Hp
  rw [wp_ret]; imodintro
  isplitl [Hp Ha]
  · isplitl [Hp]; · iexact Hp
    iexact Ha
  · iexists _; iexact HO

/-- The wait for a copy's departure, owing nothing. -/
theorem T.depart (κ : Cp) {sp sp' : Space} {s s' : Shape} {e e' : EltTy} {src : Memref sig .tc sp s e} {dst : Memref sig .tc sp' s' e'}
    {h₁ : src.view.WordExact} {h₂ : dst.view.WordExact}
    (hN : dst.view.dmaCredit = amt κ) :
    T X Y K c iprop(sent κ c ∗ ow c []) (Prog.lift (.waitDma2 (sndS κ) src dst h₁ h₂)) iprop(gone κ c ∗ ow c []) := by
  unfold T sent gone ow
  simp only [Prog.lift]
  iintro ⟨#HK, ⟨Hc, Ha⟩, ⟨%W, HO⟩⟩
  iapply (Rounds.wp_wait_rest_token 𝒱₀ ER (sched X Y) (c : Thread nD τ) none (κ := K (c, .snd κ))
      (wpE_waitDma2_eq 𝒱₀ (c : Thread nD τ) none Set.univ) (Set.mem_univ _) () (O := owed c []) (W := W) (R := 0) (m := 0) (T := ∅)
      (by rw [Nat.zero_add]; exact hN.trans (expect_snd X Y c κ).symm)) $$ [Hc HO Ha]
  · isplitr; · iapply (known_inv X Y K (c, .snd κ)); iexact HK
    isplitl [Hc]; · rw [hN]; iexact Hc
    isplitl [HO]; · iexact HO
    isplitr
    · iapply (mayWait_owed c (.dma (sndS κ)) [] fun κ' h => absurd h List.not_mem_nil)
      iapply (known_lev X Y K); iexact HK
    iexact Ha
  iintro ⟨HO, Ha, -, Hp⟩
  ihave Hp := (show bigSep ((sched X Y).duties ((c : Thread nD τ), .dma (sndS κ)) 0 \ ∅) (fun d => (sched X Y).payload ((c : Thread nD τ), .dma (sndS κ)) 0 d) ⊢ _ from
    Entails.of_eq (rest_snd X Y c κ)) $$ Hp
  rw [wp_ret]; imodintro
  isplitl [Hp Ha]
  · isplitl [Hp]; · iexact Hp
    iexact Ha
  · iexists _; iexact HO

/-! ## The handshake -/

/-- The duty of the barrier of the device it signals that a device's `k`-th signal pays. -/
def sgn (k : Fin 4) : Fin 4 := ![1, 3, 2, 0] k
theorem tgt_sigDev (k : Fin 4) (c : Dev nD) : tgt (sigDev k c) (sgn k) = c := by revert k c; decide +kernel

/-- What a signal hands over: the slots the copies of the device signalled will land in. -/
theorem barPay_sig (k : Fin 4) (c : Dev nD) :
    barPay (F := F) (sigDev k c) (sgn k) = bigSep Finset.univ fun κ : Cp => if dir κ = sgn k then dstAny (F := F) κ c else iprop(emp) := by
  unfold barPay; rw [tgt_sigDev]

def owSig (c : Dev nD) (l : List (Fin 4)) : sProp 𝕄 := iprop(∃ W, owes (c : Thread nD τ) (owed₁ c l) W)

/-- One signal. -/
theorem T.signal (k : Fin 4) (l : List (Fin 4)) :
    T X Y K c iprop((dutyTok ER (barCell (sigDev k c)) 0 (sgn k) ∗ barPay (sigDev k c) (sgn k)) ∗ owSig c (k :: l))
      (semSignalWord (sigDev k c) barS 1#32) iprop(emp ∗ owSig c l) := by
  unfold T owSig
  simp only [semSignalWord, Prog.lift]
  iintro ⟨#HK, ⟨Ht, Hp⟩, ⟨%W, HO⟩⟩
  iapply (Rounds.wp_signal 𝒱₀ ER (sched X Y) (c : Thread nD τ) none (dst := (sigDev k c : Thread nD τ)) (κ := K (sigDev k c, .bar))
      (d := sgn k) (show sgn k ∈ (sched X Y).duties (barCell (sigDev k c)) 0 by rw [duties_bar]; exact Finset.mem_univ _) ((amount_bar X Y (sigDev k c) (sgn k)).trans (by decide)) () (owed₁ c l) rfl)
    $$ [HO Ht Hp]
  · isplitr; · iapply (known_inv X Y K (sigDev k c, .bar)); iexact HK
    isplitl [HO]; · iexact HO
    isplitl [Ht]; · iexact Ht
    isplitl [Hp]
    · iapply (show barPay (sigDev k c) (sgn k) ⊢ (sched X Y).payload ((sigDev k c : Thread nD τ), .reg barS) 0 (sgn k) from Entails.of_eq (payload_bar X Y (sigDev k c) (sgn k)).symm)
      iexact Hp
    iapply (known_reached X Y K (sigDev k c, .bar)); iexact HK
  iintro HO
  rw [wp_ret]; imodintro
  isplitr; · iempintro
  iexists W; iexact HO

/-- The wait for the four peers' signals: every copy's landing slot. -/
theorem T.handshake (l : List Cp) :
    T X Y K c iprop((cred (tallyAt (barCell c) () 4) ∗ atPos ER (barCell c) 0 ∅ 0) ∗ ow c l) (semWaitWord barS 4#32)
      iprop(((bigSep Finset.univ fun κ : Cp => dstAny κ (tgt c (dir κ))) ∗ atPos ER (barCell c) 1 ∅ 0) ∗ ow c l) := by
  unfold T ow
  simp only [semWaitWord, Prog.lift]
  iintro ⟨#HK, ⟨Hc, Ha⟩, ⟨%W, HO⟩⟩
  iapply (Rounds.wp_wait_rest_token 𝒱₀ ER (sched X Y) (c : Thread nD τ) none (κ := K (c, .bar))
      (wpE_semWait_eq 𝒱₀ (c : Thread nD τ) none Set.univ) (Set.mem_univ _) () (O := owed c l) (W := W) (R := 0) (m := 0) (T := ∅)
      (show 0 + (4#32).toNat = (sched X Y).expect (barCell c) 0 by rw [expect_bar]; decide)) $$ [Hc HO Ha]
  · isplitr; · iapply (known_inv X Y K (c, .bar)); iexact HK
    isplitl [Hc]; · iexact Hc
    isplitl [HO]; · iexact HO
    isplitr
    · iapply (mayWait_owed c (.reg barS) l fun κ' h => by
        rw [show lv ((c : Thread nD τ), .reg barS) () = 1 from lv_bar c]; exact lt_of_lt_of_le (by decide) (rank_two κ'))
      iapply (known_lev X Y K); iexact HK
    iexact Ha
  iintro ⟨HO, Ha, -, Hp⟩
  ihave Hp := (show bigSep ((sched X Y).duties ((c : Thread nD τ), .reg barS) 0 \ ∅) (fun d => (sched X Y).payload ((c : Thread nD τ), .reg barS) 0 d) ⊢ _ from
    Entails.of_eq (rest_bar X Y c)) $$ Hp
  rw [wp_ret]; imodintro
  isplitl [Hp Ha]
  · isplitl [Hp]; · iexact Hp
    iexact Ha
  · iexists _; iexact HO

end Cert.Dot

end
-- ==== Proof.Units.lean ====
/-
What each step of the body does: the slots it needs and the slots it fills.
-/
module

public import proofs.«01_k».proof.Proof.Rules

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots that stay on the device -/

/-- The two input blocks; -/
def xy (X : Dev nD → Vec F S512x512 .f32) (Y : Dev nD → Vec F S512x2048 .f32) (c : Dev nD) : sProp 𝕄 :=
  iprop(valAt c cc0_stg0_0 Finset.univ (X c) ∗ valAt c cc0_stg1_0 Finset.univ (Y c))
/-- column block `st` of the accumulator, at any contents and filled; -/
def accAny (c : Dev nD) (st : Fin 8) : sProp 𝕄 := anyAt (F := F) c cc0_scratch0 (stripR st).set
def accVal (X : Dev nD → Vec F S512x512 .f32) (Y : Dev nD → Vec F S512x2048 .f32) (c : Dev nD) (st : Fin 8) : sProp 𝕄 :=
  valAt c cc0_scratch0 (stripR st).set (accG X Y c)
/-- slot `ai` of the plane sums; -/
def asumAny (c : Dev nD) (ai : Fin 3) : sProp 𝕄 := anyAt (F := F) c cc0_scratch3 (azR ai).set
def asumVal (X : Dev nD → Vec F S512x512 .f32) (Y : Dev nD → Vec F S512x2048 .f32) (c : Dev nD) (ai : Fin 3) : sProp 𝕄 :=
  valAt c cc0_scratch3 (azR ai).set (asumG X Y c)
/-- slot `bi` of the pair sums; -/
def pairAny (c : Dev nD) (bi : Fin 5) : sProp 𝕄 := anyAt (F := F) c cc0_scratch8 (zbR bi).set
def pairVal (X : Dev nD → Vec F S512x512 .f32) (Y : Dev nD → Vec F S512x2048 .f32) (c : Dev nD) (bi : Fin 5) : sProp 𝕄 :=
  valAt c cc0_scratch8 (zbR bi).set (pairG X Y c)
/-- column block `st` of the result. -/
def outAny (c : Dev nD) (st : Fin 8) : sProp 𝕄 := anyAt (F := F) c cc0_stg2_0 (ocolR st).set
def outVal (X : Dev nD → Vec F S512x512 .f32) (Y : Dev nD → Vec F S512x2048 .f32) (c : Dev nD) (st : Fin 8) : sProp 𝕄 :=
  valAt c cc0_stg2_0 (ocolR st).set (outG X Y c)

variable {X : Dev nD → Vec F S512x512 .f32} {Y : Dev nD → Vec F S512x2048 .f32} {K : Dev nD × Cell → ℕ} {c : Dev nD}

theorem le_whole {ι : Type} {S S' : Finset ι} (h : S ⊆ S') : S.map (Function.Embedding.refl ι) ⊆ S' := Finset.map_refl.le.trans h

/-- The product fills a column block of the accumulator. -/
theorem gemm_T (st : Fin 8) : T X Y K c iprop(accAny c st ∗ xy X Y c) (gemm st) iprop(accVal X Y c st ∗ xy X Y c) := by
  unfold T xy accAny accVal
  simp only [gemm, Prog.lift, Prog.bind_op, Prog.bind_ret]
  iintro ⟨-, HA, HX, HY⟩
  iapply (run_load xM xR (Finset.subset_univ _) (X c)
    (Memref.readAt_unit_zero (Elt F) cc0_stg0_0 (funext fun a => by fin_cases a <;> rfl) _ (X c))) $$ HX
  iintro HX
  iapply (run_load dyM (stripR st) (Finset.subset_univ _) _ rfl) $$ HY
  iintro HY
  iapply (run_load_any accM (stripR st) (le_whole (subset_refl _))) $$ HA
  iintro HA
  iapply (run_store accM (stripR st) (accG X Y c) (View.set_slice_whole cc0_scratch0 (stripR st)) (fun j => accG_strip X Y c st j)) $$ HA
  iintro HA
  rw [run, wp_ret]; imodintro
  isplitl [HA]; · iexact HA
  isplitl [HX] <;> iassumption

/-! ## Filling -/

theorem zbOff_col (bi : Fin 5) (c : Dev nD) : zbOff bi c 1 = 256 * (Fin.natAdd 3 bi : Fin 8).val := by
  rw [zbOff_eq]; show 768 + 256 * bi.val = 256 * (3 + bi.val); omega
theorem keepOff_col (bi : Fin 5) (c : Dev nD) : keepOff bi c 1 = 256 * (Fin.natAdd 3 bi : Fin 8).val := by
  rw [keepOff_eq]; show 768 + 256 * bi.val = 256 * (3 + bi.val); omega
theorem aOff_col (ai : Fin 3) (h : Fin 2) (o : Fin 3) (c : Dev nD) : aOff ai h o c 1 = 256 * (ai.castLE (by decide) : Fin 8).val := by rw [aOff_eq]; rfl
theorem myOff_col (ai : Fin 3) (h : Fin 2) (c : Dev nD) : myOff ai h c 1 = 256 * (ai.castLE (by decide) : Fin 8).val := by rw [myOff_eq]; rfl
theorem bOff_slot (bi : Fin 5) (o : Fin 3) (c : Dev nD) : bOff bi o c 0 = bi.val := by rw [bOff_eq]; rfl
theorem ownOff_slot (bi : Fin 5) (c : Dev nD) : ownOff bi c 0 = bi.val := by rw [ownOff_eq]; rfl

theorem zbFill_T (bi : Fin 5) :
    T X Y K c iprop(accVal X Y c (Fin.natAdd 3 bi) ∗ srcAny (.zb bi) c) (zbFill c bi) iprop(accVal X Y c (Fin.natAdd 3 bi) ∗ srcVal X Y (.zb bi) c) := by
  unfold T accVal
  simp only [srcAny, srcVal, zbFill, Prog.lift, Prog.bind_op, Prog.bind_ret]
  iintro ⟨-, HA, HS⟩
  iapply (run_load accM (halfR (zbOff bi c) (zbOff_inb bi c)) (le_whole (half_sub _ _ _ (zbOff_col bi c))) _ rfl) $$ HA
  iintro HA
  iapply (run_load_any zbsM (zbR bi) (le_whole (subset_refl _))) $$ HS
  iintro HS
  iapply (run_store zbsM (zbR bi) (zbsG X Y c) (View.set_slice_whole cc0_scratch6 (zbR bi)) (fun j => zbsG_slot X Y c bi j)) $$ HS
  iintro HS
  rw [run, wp_ret]; imodintro
  isplitl [HA] <;> iassumption

theorem aFill_T (ai o : Fin 3) (h : Fin 2) :
    T X Y K c iprop(accVal X Y c (ai.castLE (by decide)) ∗ anyAt c cc0_scratch1 (ahR ai o h).set) (aFill c ai o h)
      iprop(accVal X Y c (ai.castLE (by decide)) ∗ valAt c cc0_scratch1 (ahR ai o h).set (abufG X Y c)) := by
  unfold T accVal
  simp only [aFill, Prog.lift, Prog.bind_op, Prog.bind_ret]
  iintro ⟨-, HA, HS⟩
  iapply (run_load accM (rowsR (aOff ai h o c) (aOff_inb ai h o c)) (le_whole (rows_sub _ _ _ (aOff_col ai h o c))) _ rfl) $$ HA
  iintro HA
  iapply (run_load_any abufM (ahR ai o h) (le_whole (subset_refl _))) $$ HS
  iintro HS
  iapply (run_store abufM (ahR ai o h) (abufG X Y c) (View.set_slice_whole cc0_scratch1 (ahR ai o h)) (fun j => abufG_slot X Y c ai o h j)) $$ HS
  iintro HS
  rw [run, wp_ret]; imodintro
  isplitl [HA] <;> iassumption

/-- A block-pair slot is filled half by half. -/
theorem aSlot_halves (ai o : Fin 3) :
    srcAny (F := F) (.a ai o) c ⊢ iprop(anyAt c cc0_scratch1 (ahR ai o 0).set ∗ anyAt c cc0_scratch1 (ahR ai o 1).set) := by
  have hcut : ∀ f, (valAt c cc0_scratch1 (aR ai o).set f : sProp 𝕄)
      ⊢ iprop(valAt c cc0_scratch1 (ahR ai o 0).set f ∗ valAt c cc0_scratch1 (ahR ai o 1).set f) := fun f =>
    (Entails.of_eq (congrArg (fun S => (valAt c cc0_scratch1 S f : sProp 𝕄)) (aR_halves ai o))).trans (pointsTo_union (aR_halves_disj ai o)).1
  simp only [srcAny]
  unfold anyAt
  iintro ⟨%f, H⟩
  ihave H := (hcut f) $$ H
  icases H with ⟨H0, H1⟩
  isplitl [H0]
  · iexists f; iexact H0
  · iexists f; iexact H1
theorem aSlot_filled (ai o : Fin 3) :
    iprop(valAt c cc0_scratch1 (ahR ai o 0).set (abufG X Y c) ∗ valAt c cc0_scratch1 (ahR ai o 1).set (abufG X Y c)) ⊢ srcVal X Y (.a ai o) c := by
  simp only [srcVal]
  exact (pointsTo_union (aR_halves_disj ai o)).2.trans (Entails.of_eq (congrArg (fun S => valAt c cc0_scratch1 S (abufG X Y c)) (aR_halves ai o).symm))

/-- What the device's own block and the plane's landed blocks of column block `ai` are read from. -/
def planeIn (X : Dev nD → Vec F S512x512 .f32) (Y : Dev nD → Vec F S512x2048 .f32) (c : Dev nD) (ai : Fin 3) : sProp 𝕄 :=
  iprop(accVal X Y c (ai.castLE (by decide)) ∗ dstVal X Y (.a ai 0) c ∗ dstVal X Y (.a ai 1) c ∗ dstVal X Y (.a ai 2) c)

theorem asumFill_T (ai : Fin 3) :
    T X Y K c iprop(planeIn X Y c ai ∗ asumAny c ai) (asumFill c ai) iprop(planeIn X Y c ai ∗ asumVal X Y c ai) := by
  unfold T planeIn accVal asumAny asumVal
  simp only [dstVal, asumFill, aLoad, Prog.lift, Prog.bind_op, Prog.bind_ret]
  iintro ⟨-, ⟨HA, H0, H1, H2⟩, HS⟩
  iapply (run_load accM (rowsR (myOff ai 0 c) (myOff_inb ai 0 c)) (le_whole (rows_sub _ _ _ (myOff_col ai 0 c))) _ rfl) $$ HA
  iintro HA
  iapply (run_load arecvM (ahR ai 0 0) (le_whole (ah_sub ai 0 0)) _ rfl) $$ H0
  iintro H0
  iapply (run_load arecvM (ahR ai 1 0) (le_whole (ah_sub ai 1 0)) _ rfl) $$ H1
  iintro H1
  iapply (run_load arecvM (ahR ai 2 0) (le_whole (ah_sub ai 2 0)) _ rfl) $$ H2
  iintro H2
  iapply (run_load_any asumM (azR ai) (le_whole (subset_refl _))) $$ HS
  iintro HS
  iapply (run_store asumM (azR ai) (asumG X Y c) (View.set_slice_whole cc0_scratch3 (azR ai)) (fun j => asumG_slot X Y c ai j)) $$ HS
  iintro HS
  rw [run, wp_ret]; imodintro
  isplitr [HS]
  · isplitl [HA]; · iexact HA
    isplitl [H0]; · iexact H0
    isplitl [H1] <;> iassumption
  · iexact HS

theorem azFill_T (ai : Fin 3) :
    T X Y K c iprop(planeIn X Y c ai ∗ srcAny (.az ai) c) (azFill c ai) iprop(planeIn X Y c ai ∗ srcVal X Y (.az ai) c) := by
  unfold T planeIn accVal
  simp only [dstVal, srcAny, srcVal, azFill, aLoad, Prog.lift, Prog.bind_op, Prog.bind_ret]
  iintro ⟨-, ⟨HA, H0, H1, H2⟩, HS⟩
  iapply (run_load accM (rowsR (myOff ai 1 c) (myOff_inb ai 1 c)) (le_whole (rows_sub _ _ _ (myOff_col ai 1 c))) _ rfl) $$ HA
  iintro HA
  iapply (run_load arecvM (ahR ai 0 1) (le_whole (ah_sub ai 0 1)) _ rfl) $$ H0
  iintro H0
  iapply (run_load arecvM (ahR ai 1 1) (le_whole (ah_sub ai 1 1)) _ rfl) $$ H1
  iintro H1
  iapply (run_load arecvM (ahR ai 2 1) (le_whole (ah_sub ai 2 1)) _ rfl) $$ H2
  iintro H2
  iapply (run_load_any azsM (azR ai) (le_whole (subset_refl _))) $$ HS
  iintro HS
  iapply (run_store azsM (azR ai) (azsG X Y c) (View.set_slice_whole cc0_scratch4 (azR ai)) (fun j => azsG_slot X Y c ai j)) $$ HS
  iintro HS
  rw [run, wp_ret]; imodintro
  isplitr [HS]
  · isplitl [HA]; · iexact HA
    isplitl [H0]; · iexact H0
    isplitl [H1] <;> iassumption
  · iexact HS

theorem pairFill_T (bi : Fin 5) :
    T X Y K c iprop((dstVal X Y (.zb bi) c ∗ accVal X Y c (Fin.natAdd 3 bi)) ∗ pairAny c bi) (pairFill c bi)
      iprop((dstVal X Y (.zb bi) c ∗ accVal X Y c (Fin.natAdd 3 bi)) ∗ pairVal X Y c bi) := by
  unfold T accVal pairAny pairVal
  simp only [dstVal, pairFill, Prog.lift, Prog.bind_op, Prog.bind_ret]
  iintro ⟨-, ⟨HD, HA⟩, HS⟩
  iapply (run_load zbrM (zbR bi) (le_whole (subset_refl _)) _ rfl) $$ HD
  iintro HD
  iapply (run_load accM (halfR (keepOff bi c) (keepOff_inb bi c)) (le_whole (half_sub _ _ _ (keepOff_col bi c))) _ rfl) $$ HA
  iintro HA
  iapply (run_load_any pairM (zbR bi) (le_whole (subset_refl _))) $$ HS
  iintro HS
  iapply (run_store pairM (zbR bi) (pairG X Y c) (View.set_slice_whole cc0_scratch8 (zbR bi)) (fun j => pairG_slot X Y c bi j)) $$ HS
  iintro HS
  rw [run, wp_ret]; imodintro
  isplitr [HS]
  · isplitl [HD] <;> iassumption
  · iexact HS

theorem bFill_T (bi : Fin 5) (o : Fin 3) :
    T X Y K c iprop(pairVal X Y c bi ∗ srcAny (.b bi o) c) (bFill c bi o) iprop(pairVal X Y c bi ∗ srcVal X Y (.b bi o) c) := by
  unfold T pairVal
  simp only [srcAny, srcVal, bFill, Prog.lift, Prog.bind_op, Prog.bind_ret]
  iintro ⟨-, HA, HS⟩
  iapply (run_load pairM (prowsR (bOff bi o c) (bOff_inb bi o c)) (le_whole (prows_sub _ _ _ (bOff_slot bi o c))) _ rfl) $$ HA
  iintro HA
  iapply (run_load_any bbufM (bR bi o) (le_whole (subset_refl _))) $$ HS
  iintro HS
  iapply (run_store bbufM (bR bi o) (bbufG X Y c) (View.set_slice_whole cc0_scratch9 (bR bi o)) (fun j => bbufG_slot X Y c bi o j)) $$ HS
  iintro HS
  rw [run, wp_ret]; imodintro
  isplitl [HA] <;> iassumption

theorem three_le : 3 ≤ 8 := by decide
theorem outA_T (ai : Fin 3) :
    T X Y K c iprop((asumVal X Y c ai ∗ dstVal X Y (.az ai) c) ∗ outAny c (Fin.castLE three_le ai)) (outA ai)
      iprop((asumVal X Y c ai ∗ dstVal X Y (.az ai) c) ∗ outVal X Y c (Fin.castLE three_le ai)) := by
  unfold T asumVal outAny outVal
  simp only [dstVal, outA, Prog.lift, Prog.bind_op, Prog.bind_ret]
  iintro ⟨-, ⟨HA, HD⟩, HS⟩
  iapply (run_load asumM (azR ai) (le_whole (subset_refl _)) _ rfl) $$ HA
  iintro HA
  iapply (run_load azrM (azR ai) (le_whole (subset_refl _)) _ rfl) $$ HD
  iintro HD
  iapply (run_load_any outM (ocolR (Fin.castLE three_le ai)) (le_whole (subset_refl _))) $$ HS
  iintro HS
  iapply (run_store outM (ocolR (Fin.castLE three_le ai)) (outG X Y c) (View.set_slice_whole cc0_stg2_0 (ocolR (Fin.castLE three_le ai)))
    (fun j => (outG_strip X Y c (Fin.castLE three_le ai) j).trans (congrFun (Fin.addCases_left (m := 3) (n := 5) ai) j))) $$ HS
  iintro HS
  rw [run, wp_ret]; imodintro
  isplitr [HS]
  · isplitl [HA] <;> iassumption
  · iexact HS

theorem outB_T (bi : Fin 5) :
    T X Y K c iprop((pairVal X Y c bi ∗ dstVal X Y (.b bi 0) c ∗ dstVal X Y (.b bi 1) c ∗ dstVal X Y (.b bi 2) c) ∗ outAny c (Fin.natAdd 3 bi)) (outB c bi)
      iprop((pairVal X Y c bi ∗ dstVal X Y (.b bi 0) c ∗ dstVal X Y (.b bi 1) c ∗ dstVal X Y (.b bi 2) c) ∗ outVal X Y c (Fin.natAdd 3 bi)) := by
  unfold T pairVal outAny outVal
  simp only [dstVal, outB, bLoad, Prog.lift, Prog.bind_op, Prog.bind_ret]
  iintro ⟨-, ⟨HA, H0, H1, H2⟩, HS⟩
  iapply (run_load pairM (prowsR (ownOff bi c) (ownOff_inb bi c)) (le_whole (prows_sub _ _ _ (ownOff_slot bi c))) _ rfl) $$ HA
  iintro HA
  iapply (run_load brecvM (bR bi 0) (le_whole (subset_refl _)) _ rfl) $$ H0
  iintro H0
  iapply (run_load brecvM (bR bi 1) (le_whole (subset_refl _)) _ rfl) $$ H1
  iintro H1
  iapply (run_load brecvM (bR bi 2) (le_whole (subset_refl _)) _ rfl) $$ H2
  iintro H2
  iapply (run_load_any outM (ocolR (Fin.natAdd 3 bi)) (le_whole (subset_refl _))) $$ HS
  iintro HS
  iapply (run_store outM (ocolR (Fin.natAdd 3 bi)) (outG X Y c) (View.set_slice_whole cc0_stg2_0 (ocolR (Fin.natAdd 3 bi)))
    (fun j => (outG_strip X Y c (Fin.natAdd 3 bi) j).trans (congrFun (Fin.addCases_right (m := 3) (n := 5) bi) j))) $$ HS
  iintro HS
  rw [run, wp_ret]; imodintro
  isplitr [HS]
  · isplitl [HA]; · iexact HA
    isplitl [H0]; · iexact H0
    isplitl [H1] <;> iassumption
  · iexact HS

/-! ## Sending -/

/-- A copy lands a slot at the contents `G` if `G` is what the sender's slot reads. -/
theorem landing {n : Dev nD} {sp sp' : Space} {s : Shape} {e : EltTy} {src : Memref sig .tc sp s e} {dst : Memref sig .tc sp' s e}
    (fs : Buf (Elt F) (src.view.loc (c : Thread nD τ))) (G fd : Buf (Elt F) (dst.view.loc (n : Thread nD τ))) (S : Finset (Idx (dst.view.loc (n : Thread nD τ))))
    (hS : dst.view.set = S) (hG : ∀ x, dst.view.emb x ∈ S → dst.view.read (Elt F) G x = src.view.read (Elt F) fs x) :
    (dst.view.loc (n : Thread nD τ) ↦[dst.view.set]{fullShare} dst.view.write (Elt F) fd (src.view.read (Elt F) fs) Finset.univ : sProp 𝕄)
      ⊢ valAt n dst.view.ref S G := by
  subst hS
  refine Entails.of_eq (pointsTo_congr fun i hi => ?_)
  obtain ⟨x, -, rfl⟩ := Finset.mem_map.mp hi
  rw [View.write_emb_of_mem _ _ (Finset.mem_univ x), ← hG x hi, View.read_apply, cast_cast, cast_eq]

theorem zbs_set (bi : Fin 5) : (zbSlot zbsM bi).view.set = (zbR bi).set := (View.set_reshape _ _).trans (View.set_slice_whole cc0_scratch6 (zbR bi))
theorem zbr_set (bi : Fin 5) : (zbSlot zbrM bi).view.set = (zbR bi).set := (View.set_reshape _ _).trans (View.set_slice_whole cc0_scratch7 (zbR bi))
theorem abuf_set (ai o : Fin 3) : (aSlot abufM ai o).view.set = (aR ai o).set := (View.set_reshape _ _).trans (View.set_slice_whole cc0_scratch1 (aR ai o))
theorem arecv_set (ai o : Fin 3) : (aSlot arecvM ai o).view.set = (aR ai o).set := (View.set_reshape _ _).trans (View.set_slice_whole cc0_scratch2 (aR ai o))
theorem azs_set (ai : Fin 3) : (azSlot azsM ai).view.set = (azR ai).set := (View.set_reshape _ _).trans (View.set_slice_whole cc0_scratch4 (azR ai))
theorem azr_set (ai : Fin 3) : (azSlot azrM ai).view.set = (azR ai).set := (View.set_reshape _ _).trans (View.set_slice_whole cc0_scratch5 (azR ai))
theorem bbuf_set (bi : Fin 5) (o : Fin 3) : (bSlot bbufM bi o).view.set = (bR bi o).set := (View.set_reshape _ _).trans (View.set_slice_whole cc0_scratch9 (bR bi o))
theorem brecv_set (bi : Fin 5) (o : Fin 3) : (bSlot brecvM bi o).view.set = (bR bi o).set := (View.set_reshape _ _).trans (View.set_slice_whole cc0_scratch10 (bR bi o))

theorem tgt_tgt_zero (c : Dev nD) : tgt (tgt c 0) 0 = c := tgt_neg c 0

theorem zb_src (bi : Fin 5) :
    srcVal X Y (.zb bi) c = ((zbSlot zbsM bi).view.loc (c : Thread nD τ) ↦[(zbSlot zbsM bi).view.set]{fullShare} (zbsG X Y c) : sProp 𝕄) :=
  congrArg (fun S => valAt c cc0_scratch6 S (zbsG X Y c)) (zbs_set bi).symm
theorem zb_dst (bi : Fin 5) :
    dstAny (F := F) (.zb bi) (tgt c (dir (.zb bi))) = anyAt (tgt c (dir (.zb bi))) (zbSlot zbrM bi).view.ref (zbSlot zbrM bi).view.set :=
  congrArg (fun S => anyAt (F := F) (tgt c 0) cc0_scratch7 S) (zbr_set bi).symm
theorem zb_lands (bi : Fin 5) (fd) :
    ((zbSlot zbrM bi).view.loc (tgt c 0 : Thread nD τ) ↦[(zbSlot zbrM bi).view.set]{fullShare}
      (zbSlot zbrM bi).view.write (Elt F) fd ((zbSlot zbsM bi).view.read (Elt F) (zbsG X Y c)) Finset.univ : sProp 𝕄)
      ⊢ dstVal X Y (.zb bi) (tgt c 0) :=
  landing (c := c) (src := zbSlot zbsM bi) (dst := zbSlot zbrM bi) (zbsG X Y c) (zbrG X Y (tgt c 0)) fd (zbR bi).set (zbr_set bi) fun x _ =>
    congrFun (congrArg (fun d => (zbSlot zbsM bi).view.read (Elt F) (zbsG X Y d)) (tgt_tgt_zero c)) x

theorem az_src (ai : Fin 3) :
    srcVal X Y (.az ai) c = ((azSlot azsM ai).view.loc (c : Thread nD τ) ↦[(azSlot azsM ai).view.set]{fullShare} (azsG X Y c) : sProp 𝕄) :=
  congrArg (fun S => valAt c cc0_scratch4 S (azsG X Y c)) (azs_set ai).symm
theorem az_dst (ai : Fin 3) :
    dstAny (F := F) (.az ai) (tgt c (dir (.az ai))) = anyAt (tgt c (dir (.az ai))) (azSlot azrM ai).view.ref (azSlot azrM ai).view.set :=
  congrArg (fun S => anyAt (F := F) (tgt c 0) cc0_scratch5 S) (azr_set ai).symm
theorem az_lands (ai : Fin 3) (fd) :
    ((azSlot azrM ai).view.loc (tgt c 0 : Thread nD τ) ↦[(azSlot azrM ai).view.set]{fullShare}
      (azSlot azrM ai).view.write (Elt F) fd ((azSlot azsM ai).view.read (Elt F) (azsG X Y c)) Finset.univ : sProp 𝕄)
      ⊢ dstVal X Y (.az ai) (tgt c 0) :=
  landing (c := c) (src := azSlot azsM ai) (dst := azSlot azrM ai) (azsG X Y c) (azrG X Y (tgt c 0)) fd (azR ai).set (azr_set ai) fun x _ =>
    congrFun (congrArg (fun d => (azSlot azsM ai).view.read (Elt F) (azsG X Y d)) (tgt_tgt_zero c)) x

theorem arecvG_at (ai o : Fin 3) (i : S3x3x2x64x256.Idx) (hi : i ∈ (aR ai o).set) : arecvG X Y (tgt c o.succ) i = abufG X Y c i :=
  have h : (i 1 : Fin 3) = o := ((mem_aR ai o i).mp hi).2
  congrFun (congrArg (abufG X Y) ((congrArg (fun q : Fin 3 => tgt (tgt c o.succ) (-q.succ)) h).trans (tgt_neg c o.succ))) i
theorem brecvG_at (bi : Fin 5) (o : Fin 3) (i : S5x3x64x256.Idx) (hi : i ∈ (bR bi o).set) : brecvG X Y (tgt c o.succ) i = bbufG X Y c i :=
  have h : (i 1 : Fin 3) = o := ((mem_bR bi o i).mp hi).2
  congrFun (congrArg (bbufG X Y) ((congrArg (fun q : Fin 3 => tgt (tgt c o.succ) (-q.succ)) h).trans (tgt_neg c o.succ))) i

theorem a_src (ai o : Fin 3) :
    srcVal X Y (.a ai o) c = ((aSlot abufM ai o).view.loc (c : Thread nD τ) ↦[(aSlot abufM ai o).view.set]{fullShare} (abufG X Y c) : sProp 𝕄) :=
  congrArg (fun S => valAt c cc0_scratch1 S (abufG X Y c)) (abuf_set ai o).symm
theorem a_dst (ai o : Fin 3) :
    dstAny (F := F) (.a ai o) (tgt c (dir (.a ai o))) = anyAt (tgt c (dir (.a ai o))) (aSlot arecvM ai o).view.ref (aSlot arecvM ai o).view.set :=
  congrArg (fun S => anyAt (F := F) (tgt c o.succ) cc0_scratch2 S) (arecv_set ai o).symm
theorem a_lands (ai o : Fin 3) (fd) :
    ((aSlot arecvM ai o).view.loc (tgt c o.succ : Thread nD τ) ↦[(aSlot arecvM ai o).view.set]{fullShare}
      (aSlot arecvM ai o).view.write (Elt F) fd ((aSlot abufM ai o).view.read (Elt F) (abufG X Y c)) Finset.univ : sProp 𝕄)
      ⊢ dstVal X Y (.a ai o) (tgt c o.succ) :=
  landing (c := c) (src := aSlot abufM ai o) (dst := aSlot arecvM ai o) (abufG X Y c) (arecvG X Y (tgt c o.succ)) fd (aR ai o).set (arecv_set ai o) fun x hx => arecvG_at ai o _ hx

theorem b_src (bi : Fin 5) (o : Fin 3) :
    srcVal X Y (.b bi o) c = ((bSlot bbufM bi o).view.loc (c : Thread nD τ) ↦[(bSlot bbufM bi o).view.set]{fullShare} (bbufG X Y c) : sProp 𝕄) :=
  congrArg (fun S => valAt c cc0_scratch9 S (bbufG X Y c)) (bbuf_set bi o).symm
theorem b_dst (bi : Fin 5) (o : Fin 3) :
    dstAny (F := F) (.b bi o) (tgt c (dir (.b bi o))) = anyAt (tgt c (dir (.b bi o))) (bSlot brecvM bi o).view.ref (bSlot brecvM bi o).view.set :=
  congrArg (fun S => anyAt (F := F) (tgt c o.succ) cc0_scratch10 S) (brecv_set bi o).symm
theorem b_lands (bi : Fin 5) (o : Fin 3) (fd) :
    ((bSlot brecvM bi o).view.loc (tgt c o.succ : Thread nD τ) ↦[(bSlot brecvM bi o).view.set]{fullShare}
      (bSlot brecvM bi o).view.write (Elt F) fd ((bSlot bbufM bi o).view.read (Elt F) (bbufG X Y c)) Finset.univ : sProp 𝕄)
      ⊢ dstVal X Y (.b bi o) (tgt c o.succ) :=
  landing (c := c) (src := bSlot bbufM bi o) (dst := bSlot brecvM bi o) (bbufG X Y c) (brecvG X Y (tgt c o.succ)) fd (bR bi o).set (brecv_set bi o) fun x hx => brecvG_at bi o _ hx

theorem zbSend_T (bi : Fin 5) (l : List Cp) :
    T X Y K c iprop((srcVal X Y (.zb bi) c ∗ ready (.zb bi) c) ∗ ow c (.zb bi :: l)) (zbSend c bi) iprop(sent (.zb bi) c ∗ ow c l) := by
  unfold zbSend
  exact T.send (src := zbSlot zbsM bi) (dst := zbSlot zbrM bi) (.zb bi) (zbDev bi c) (zbDev_eq bi c) (hsc := rfl) rfl (zbsG X Y c) l
    (zb_src bi) (zb_dst bi) (zb_lands bi)

theorem azSend_T (ai : Fin 3) (l : List Cp) :
    T X Y K c iprop((srcVal X Y (.az ai) c ∗ ready (.az ai) c) ∗ ow c (.az ai :: l)) (azSend c ai) iprop(sent (.az ai) c ∗ ow c l) := by
  unfold azSend
  exact T.send (src := azSlot azsM ai) (dst := azSlot azrM ai) (.az ai) (azDev ai c) (azDev_eq ai c) (hsc := rfl) rfl (azsG X Y c) l
    (az_src ai) (az_dst ai) (az_lands ai)

theorem aSend_T (ai o : Fin 3) (l : List Cp) :
    T X Y K c iprop((srcVal X Y (.a ai o) c ∗ ready (.a ai o) c) ∗ ow c (.a ai o :: l)) (aSend c ai o) iprop(sent (.a ai o) c ∗ ow c l) := by
  unfold aSend
  exact T.send (src := aSlot abufM ai o) (dst := aSlot arecvM ai o) (.a ai o) (aDev ai o c) (aDev_eq ai o c) (hsc := rfl) rfl (abufG X Y c) l
    (a_src ai o) (a_dst ai o) (a_lands ai o)

theorem bSend_T (bi : Fin 5) (o : Fin 3) (l : List Cp) :
    T X Y K c iprop((srcVal X Y (.b bi o) c ∗ ready (.b bi o) c) ∗ ow c (.b bi o :: l)) (bSend c bi o) iprop(sent (.b bi o) c ∗ ow c l) := by
  unfold bSend
  exact T.send (src := bSlot bbufM bi o) (dst := bSlot brecvM bi o) (.b bi o) (bDev bi o c) (bDev_eq bi o c) (hsc := rfl) rfl (bbufG X Y c) l
    (b_src bi o) (b_dst bi o) (b_lands bi o)

/-! ## Waiting -/

theorem zbWait_T (bi : Fin 5) (l : List Cp) (hl : ∀ κ' ∈ l, 2 < rank κ') :
    T X Y K c iprop(await (.zb bi) c ∗ ow c l) (zbWait bi) iprop(got X Y (.zb bi) c ∗ ow c l) := T.arrive (.zb bi) l rfl hl
theorem aWait_T (ai o : Fin 3) (l : List Cp) (hl : ∀ κ' ∈ l, 2 < rank κ') :
    T X Y K c iprop(await (.a ai o) c ∗ ow c l) (aWait ai o) iprop(got X Y (.a ai o) c ∗ ow c l) := T.arrive (.a ai o) l rfl hl
theorem azWait_T (ai : Fin 3) : T X Y K c iprop(await (.az ai) c ∗ ow c []) (azWait ai) iprop(got X Y (.az ai) c ∗ ow c []) :=
  T.arrive (.az ai) [] rfl fun _ h => absurd h List.not_mem_nil
theorem bWait_T (bi : Fin 5) (o : Fin 3) : T X Y K c iprop(await (.b bi o) c ∗ ow c []) (bWait bi o) iprop(got X Y (.b bi o) c ∗ ow c []) :=
  T.arrive (.b bi o) [] rfl fun _ h => absurd h List.not_mem_nil

theorem zbDone_T (bi : Fin 5) : T X Y K c iprop(sent (.zb bi) c ∗ ow c []) (zbDone bi) iprop(gone (.zb bi) c ∗ ow c []) := T.depart (.zb bi) rfl
theorem aDone_T (ai o : Fin 3) : T X Y K c iprop(sent (.a ai o) c ∗ ow c []) (aDone ai o) iprop(gone (.a ai o) c ∗ ow c []) := T.depart (.a ai o) rfl
theorem azDone_T (ai : Fin 3) : T X Y K c iprop(sent (.az ai) c ∗ ow c []) (azDone ai) iprop(gone (.az ai) c ∗ ow c []) := T.depart (.az ai) rfl
theorem bDone_T (bi : Fin 5) (o : Fin 3) : T X Y K c iprop(sent (.b bi o) c ∗ ow c []) (bDone bi o) iprop(gone (.b bi o) c ∗ ow c []) := T.depart (.b bi o) rfl

end Cert.Dot

end
-- ==== Proof.Phases.lean ====
/-
The phases of the body, one after the other: what a device holds before and after each.
-/
module

public import proofs.«01_k».proof.Proof.Units

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Vec F S512x512 .f32} {Y : Dev nD → Vec F S512x2048 .f32} {K : Dev nD × Cell → ℕ} {c : Dev nD}

/-! ## Splitting what is held of each -/

instance sep_isAssoc : Std.Associative (α := sProp 𝕄) BIBase.sep := ⟨fun _ _ _ => equiv_iff.mp ⟨BI.sep_assoc, BI.sep_assoc'⟩⟩
instance sep_isComm : Std.Commutative (α := sProp 𝕄) BIBase.sep := ⟨fun _ _ => equiv_iff.mp ⟨BI.sep_comm, BI.sep_comm⟩⟩
instance sep_isUnit : Std.LawfulIdentity (α := sProp 𝕄) BIBase.sep BIBase.emp :=
  { left_id := fun _ => equiv_iff.mp BI.emp_sep, right_id := fun _ => equiv_iff.mp BI.sep_emp }

theorem three (Φ : Fin 3 → sProp 𝕄) : bigSep Finset.univ Φ = iprop(Φ 0 ∗ Φ 1 ∗ Φ 2) :=
  bigSep_univ_eq_bigSepL [0, 1, 2] (by decide) (by decide) Φ

/-- Three column blocks of the first kind, five of the second. -/
theorem three_five (Φ : Fin 8 → sProp 𝕄) :
    bigSep Finset.univ Φ = iprop((bigSep Finset.univ fun ai : Fin 3 => Φ (ai.castLE three_le)) ∗ bigSep Finset.univ fun bi : Fin 5 => Φ (Fin.natAdd 3 bi)) := by
  rw [bigSep_univ_equiv (finSumFinEquiv (m := 3) (n := 5)) Φ]
  exact bigSep_univ_sum _

/-- The copies by kind. -/
theorem kinds (Φ : Cp → sProp 𝕄) :
    bigSep Finset.univ Φ = iprop((bigSep Finset.univ fun bi => Φ (.zb bi)) ∗ (bigSep Finset.univ fun ai => bigSep Finset.univ fun o => Φ (.a ai o)) ∗
      (bigSep Finset.univ fun ai => Φ (.az ai)) ∗ bigSep Finset.univ fun bi => bigSep Finset.univ fun o => Φ (.b bi o)) := by
  refine (bigSep_univ_sum _).trans (congrArg (fun R => iprop((bigSep Finset.univ fun bi => Φ (.zb bi)) ∗ R)) ?_)
  refine (bigSep_univ_sum _).trans (congr (congrArg (fun R R' => iprop(R ∗ R')) (bigSep_univ_prod _)) ?_)
  exact (bigSep_univ_sum _).trans (congrArg (fun R => iprop((bigSep Finset.univ fun ai => Φ (.az ai)) ∗ R)) (bigSep_univ_prod _))

/-- A step, then the others, beside what the step leaves alone. -/
theorem T.step {A A' B C : sProp 𝕄} {m m' : P F PUnit} (R : sProp 𝕄) (h : T X Y K c A m B) (hA : A' = iprop(A ∗ R))
    (h' : T X Y K c iprop(B ∗ R) m' C) : T X Y K c A' (m >>= fun _ => m') C :=
  T.seq ((h.frame R).cons (Entails.of_eq hA) .rfl) h'
/-- The last step. -/
theorem T.last {A A' B B' : sProp 𝕄} {m : P F PUnit} (R : sProp 𝕄) (h : T X Y K c A m B) (hA : A' = iprop(A ∗ R))
    (hB : iprop(B ∗ R) = B') : T X Y K c A' m B' :=
  (h.frame R).cons (Entails.of_eq hA) (Entails.of_eq hB)

/-- A loop over all indices. -/
theorem T.each {n : ℕ} {f : Fin n → P F PUnit} {A B : Fin n → sProp 𝕄} (J : List (Fin n) → sProp 𝕄) (l : List (Fin n)) (hn : l.Nodup) (hl : l.toFinset = Finset.univ)
    (h : ∀ a l, T X Y K c iprop(A a ∗ J (a :: l)) (f a) iprop(B a ∗ J l)) :
    T X Y K c iprop(bigSep Finset.univ A ∗ J l) (Dot.forL l f) iprop(bigSep Finset.univ B ∗ J []) :=
  hl ▸ T.forL h l hn

theorem l3_nodup : l3.Nodup := by decide
theorem l3_univ : l3.toFinset = Finset.univ := by decide
theorem l5_nodup : l5.Nodup := by decide
theorem l5_univ : l5.toFinset = Finset.univ := by decide

/-! ## The copies still owed -/

def owB : List Cp := l5.flatMap fun bi => l3.map fun o => Cp.b bi o
def owZ : List Cp := l3.map Cp.az ++ owB
def owA : List Cp := (l3.flatMap fun ai => l3.map fun o => Cp.a ai o) ++ owZ
theorem copies_eq : copies = l5.map Cp.zb ++ owA := rfl

/-! ## The signals -/

theorem signals_T : T X Y K c
    iprop((bigSep Finset.univ fun k => iprop(dutyTok ER (barCell (sigDev k c)) 0 (sgn k) ∗ barPay (sigDev k c) (sgn k))) ∗ owSig c [0, 1, 2, 3])
    (signals c) (ow c copies) := by
  refine (T.each (owSig c) [0, 1, 2, 3] (by decide) (by decide) (fun k l => T.signal k l)).cons .rfl ?_
  exact sep_elim_right.trans (show owSig (F := F) c [] ⊢ ow c copies from .rfl)

/-! ## The half blocks -/

theorem zb_T (bi : Fin 5) (r : List Cp) : T X Y K c
    iprop((accAny c (Fin.natAdd 3 bi) ∗ srcAny (.zb bi) c ∗ ready (.zb bi) c) ∗ ow c (.zb bi :: r) ∗ xy X Y c)
    (gemm (Fin.natAdd 3 bi) >>= fun _ => zbFill c bi >>= fun _ => zbSend c bi)
    iprop((accVal X Y c (Fin.natAdd 3 bi) ∗ sent (.zb bi) c) ∗ ow c r ∗ xy X Y c) := by
  refine T.step iprop(srcAny (.zb bi) c ∗ ready (.zb bi) c ∗ ow c (.zb bi :: r)) (gemm_T _) (by ac_rfl) ?_
  refine T.step iprop(ready (.zb bi) c ∗ ow c (.zb bi :: r) ∗ xy X Y c) (zbFill_T bi) (by ac_rfl) ?_
  exact T.last iprop(accVal X Y c (Fin.natAdd 3 bi) ∗ xy X Y c) (zbSend_T bi r) (by ac_rfl) (by ac_rfl)

/-- What a device holds for issuing a copy, beside the landing slot. -/
def tok (κ : Cp) (c : Dev nD) : sProp 𝕄 :=
  iprop(dutyTok ER (sndCell κ c) 0 0 ∗ dutyTok ER (rcvCell κ (tgt c (dir κ))) 0 0 ∗ atPos ER (sndCell κ c) 0 ∅ 0)

theorem ready_all : (bigSep Finset.univ fun κ => ready (F := F) κ c) = iprop((bigSep Finset.univ fun κ => dstAny (F := F) κ (tgt c (dir κ))) ∗ bigSep Finset.univ fun κ => tok κ c) :=
  bigSep_sep' _ _ _

theorem phase1_T : T X Y K c
    iprop((bigSep Finset.univ fun bi : Fin 5 => iprop(accAny c (Fin.natAdd 3 bi) ∗ srcAny (.zb bi) c)) ∗ (bigSep Finset.univ fun κ => tok κ c) ∗
      (cred (tallyAt (barCell c) () 4) ∗ atPos ER (barCell c) 0 ∅ 0) ∗ ow c copies ∗ xy X Y c)
    (phase1 c)
    iprop((bigSep Finset.univ fun bi : Fin 5 => iprop(accVal X Y c (Fin.natAdd 3 bi) ∗ sent (.zb bi) c)) ∗
      ((bigSep Finset.univ fun ai => bigSep Finset.univ fun o => ready (.a ai o) c) ∗ (bigSep Finset.univ fun ai => ready (.az ai) c) ∗
        (bigSep Finset.univ fun bi => bigSep Finset.univ fun o => ready (.b bi o) c) ∗ atPos ER (barCell c) 1 ∅ 0) ∗ ow c owA ∗ xy X Y c) := by
  have hs : (Finset.univ.erase 0 : Finset (Fin 5)) = [1, 2, 3, 4].toFinset := by decide
  rw [bigSep_univ_at (fun bi : Fin 5 => iprop(accAny c (Fin.natAdd 3 bi) ∗ srcAny (F := F) (.zb bi) c)) 0,
    bigSep_univ_at (fun bi : Fin 5 => iprop(accVal X Y c (Fin.natAdd 3 bi) ∗ sent (F := F) (.zb bi) c)) 0, hs]
  unfold phase1
  have g3 : T X Y K c iprop(accAny c (Fin.natAdd 3 (0 : Fin 5) : Fin 8) ∗ xy X Y c) (gemm 3) iprop(accVal X Y c (Fin.natAdd 3 (0 : Fin 5) : Fin 8) ∗ xy X Y c) := by
    rw [show (Fin.natAdd 3 (0 : Fin 5) : Fin 8) = 3 from by decide]; exact gemm_T 3
  refine T.step iprop(srcAny (.zb 0) c ∗ (bigSep [1, 2, 3, 4].toFinset fun bi : Fin 5 => iprop(accAny c (Fin.natAdd 3 bi) ∗ srcAny (.zb bi) c)) ∗
    (bigSep Finset.univ fun κ => tok κ c) ∗ (cred (tallyAt (barCell c) () 4) ∗ atPos ER (barCell c) 0 ∅ 0) ∗ ow c copies) g3
    (by ac_rfl) ?_
  refine T.step iprop((accVal X Y c (Fin.natAdd 3 (0 : Fin 5)) ∗ xy X Y c) ∗ srcAny (.zb 0) c ∗
    (bigSep [1, 2, 3, 4].toFinset fun bi : Fin 5 => iprop(accAny c (Fin.natAdd 3 bi) ∗ srcAny (.zb bi) c)) ∗ bigSep Finset.univ fun κ => tok κ c)
    (T.handshake copies) (by ac_rfl) ?_
  have hr : iprop((((bigSep Finset.univ fun κ => dstAny (F := F) κ (tgt c (dir κ))) ∗ atPos ER (barCell c) 1 ∅ 0) ∗ ow c copies) ∗
      (accVal X Y c (Fin.natAdd 3 (0 : Fin 5)) ∗ xy X Y c) ∗ srcAny (.zb 0) c ∗
      (bigSep [1, 2, 3, 4].toFinset fun bi : Fin 5 => iprop(accAny c (Fin.natAdd 3 bi) ∗ srcAny (.zb bi) c)) ∗ bigSep Finset.univ fun κ => tok κ c)
    = iprop((accVal X Y c (Fin.natAdd 3 (0 : Fin 5)) ∗ srcAny (.zb 0) c) ∗ (ready (.zb 0) c ∗ ow c copies) ∗ xy X Y c ∗
      (bigSep [1, 2, 3, 4].toFinset fun bi : Fin 5 => iprop(accAny c (Fin.natAdd 3 bi) ∗ srcAny (.zb bi) c ∗ ready (.zb bi) c)) ∗
      ((bigSep Finset.univ fun ai => bigSep Finset.univ fun o => ready (.a ai o) c) ∗ (bigSep Finset.univ fun ai => ready (.az ai) c) ∗
        (bigSep Finset.univ fun bi => bigSep Finset.univ fun o => ready (.b bi o) c) ∗ atPos ER (barCell c) 1 ∅ 0)) := by
    have h1 := (ready_all (F := F) (c := c)).symm.trans (kinds _)
    rw [bigSep_univ_at (fun bi : Fin 5 => ready (F := F) (.zb bi) c) 0, hs] at h1
    have h2 : (bigSep [1, 2, 3, 4].toFinset fun bi : Fin 5 => iprop(accAny (F := F) c (Fin.natAdd 3 bi) ∗ srcAny (F := F) (.zb bi) c ∗ ready (.zb bi) c))
      = iprop((bigSep [1, 2, 3, 4].toFinset fun bi : Fin 5 => iprop(accAny (F := F) c (Fin.natAdd 3 bi) ∗ srcAny (F := F) (.zb bi) c)) ∗
        bigSep [1, 2, 3, 4].toFinset fun bi : Fin 5 => ready (.zb bi) c) :=
      (bigSep_congr fun bi _ => by ac_rfl).trans (bigSep_sep' _ _ _)
    rw [h2]
    exact (show _ = iprop(((bigSep Finset.univ fun κ => dstAny (F := F) κ (tgt c (dir κ))) ∗ bigSep Finset.univ fun κ => tok κ c) ∗
      (accVal X Y c (Fin.natAdd 3 (0 : Fin 5)) ∗ xy X Y c) ∗ srcAny (.zb 0) c ∗
      (bigSep [1, 2, 3, 4].toFinset fun bi : Fin 5 => iprop(accAny c (Fin.natAdd 3 bi) ∗ srcAny (.zb bi) c)) ∗ atPos ER (barCell c) 1 ∅ 0 ∗ ow c copies) by ac_rfl).trans
      ((congrArg (fun R => iprop(R ∗ (accVal X Y c (Fin.natAdd 3 (0 : Fin 5)) ∗ xy X Y c) ∗ srcAny (.zb 0) c ∗
      (bigSep [1, 2, 3, 4].toFinset fun bi : Fin 5 => iprop(accAny c (Fin.natAdd 3 bi) ∗ srcAny (.zb bi) c)) ∗ atPos ER (barCell c) 1 ∅ 0 ∗ ow c copies)) h1).trans
      (by ac_rfl))
  rw [hr]
  refine T.step _ (zbFill_T 0) rfl ?_
  refine T.step iprop(accVal X Y c (Fin.natAdd 3 (0 : Fin 5)) ∗ xy X Y c ∗
      (bigSep [1, 2, 3, 4].toFinset fun bi : Fin 5 => iprop(accAny c (Fin.natAdd 3 bi) ∗ srcAny (.zb bi) c ∗ ready (.zb bi) c)) ∗
      ((bigSep Finset.univ fun ai => bigSep Finset.univ fun o => ready (.a ai o) c) ∗ (bigSep Finset.univ fun ai => ready (.az ai) c) ∗
        (bigSep Finset.univ fun bi => bigSep Finset.univ fun o => ready (.b bi o) c) ∗ atPos ER (barCell c) 1 ∅ 0)) (zbSend_T 0 ([1, 2, 3, 4].map Cp.zb ++ owA))
    (show iprop(_ ∗ (_ ∗ ow c (Cp.zb 0 :: ([1, 2, 3, 4].map Cp.zb ++ owA))) ∗ _) = _ by ac_rfl) ?_
  refine T.last iprop(sent (.zb 0) c ∗ accVal X Y c (Fin.natAdd 3 (0 : Fin 5)) ∗
      ((bigSep Finset.univ fun ai => bigSep Finset.univ fun o => ready (.a ai o) c) ∗ (bigSep Finset.univ fun ai => ready (.az ai) c) ∗
        (bigSep Finset.univ fun bi => bigSep Finset.univ fun o => ready (.b bi o) c) ∗ atPos ER (barCell c) 1 ∅ 0))
    (T.forL (J := fun l => iprop(ow c (l.map Cp.zb ++ owA) ∗ xy X Y c)) (fun bi l => zb_T bi (l.map Cp.zb ++ owA)) [1, 2, 3, 4] (by decide)) (by ac_rfl)
    (show iprop((_ ∗ ow c owA ∗ _) ∗ _) = _ by ac_rfl)

/-! ## The block pairs -/

theorem a_T (ai o : Fin 3) (r : List Cp) : T X Y K c
    iprop((srcAny (.a ai o) c ∗ ready (.a ai o) c) ∗ accVal X Y c (ai.castLE three_le) ∗ ow c (.a ai o :: r))
    (aFill c ai o 0 >>= fun _ => aFill c ai o 1 >>= fun _ => aSend c ai o)
    iprop(sent (.a ai o) c ∗ accVal X Y c (ai.castLE three_le) ∗ ow c r) := by
  refine T.cons (A := iprop(((anyAt c cc0_scratch1 (ahR ai o 0).set ∗ anyAt c cc0_scratch1 (ahR ai o 1).set) ∗ ready (.a ai o) c) ∗
    accVal X Y c (ai.castLE three_le) ∗ ow c (.a ai o :: r))) ?_ (sep_mono_left (sep_mono_left (aSlot_halves ai o))) .rfl
  refine T.step iprop(anyAt c cc0_scratch1 (ahR ai o 1).set ∗ ready (.a ai o) c ∗ ow c (.a ai o :: r)) (aFill_T ai o 0) (by ac_rfl) ?_
  refine T.step iprop(valAt c cc0_scratch1 (ahR ai o 0).set (abufG X Y c) ∗ ready (.a ai o) c ∗ ow c (.a ai o :: r)) (aFill_T ai o 1) (by ac_rfl) ?_
  refine T.cons (T.last iprop(accVal X Y c (ai.castLE three_le)) (aSend_T ai o r) rfl rfl)
    (A' := iprop((accVal X Y c (ai.castLE three_le) ∗ valAt c cc0_scratch1 (ahR ai o 1).set (abufG X Y c)) ∗
      valAt c cc0_scratch1 (ahR ai o 0).set (abufG X Y c) ∗ ready (.a ai o) c ∗ ow c (.a ai o :: r))) ?_ (Entails.of_eq (by ac_rfl))
  refine Entails.trans (Q := iprop((valAt c cc0_scratch1 (ahR ai o 0).set (abufG X Y c) ∗ valAt c cc0_scratch1 (ahR ai o 1).set (abufG X Y c)) ∗
    ready (.a ai o) c ∗ ow c (.a ai o :: r) ∗ accVal X Y c (ai.castLE three_le))) (Entails.of_eq (by ac_rfl)) ?_
  exact (sep_mono_left (aSlot_filled ai o)).trans (Entails.of_eq (by ac_rfl))

theorem phase2_T : T X Y K c
    iprop((bigSep Finset.univ fun ai : Fin 3 => iprop(accAny c (ai.castLE three_le) ∗ bigSep Finset.univ fun o => iprop(srcAny (.a ai o) c ∗ ready (.a ai o) c))) ∗
      ow c owA ∗ xy X Y c)
    (phase2 c)
    iprop((bigSep Finset.univ fun ai : Fin 3 => iprop(accVal X Y c (ai.castLE three_le) ∗ bigSep Finset.univ fun o => sent (.a ai o) c)) ∗ ow c owZ ∗ xy X Y c) := by
  refine T.each (fun l => iprop(ow c ((l.flatMap fun ai => l3.map fun o => Cp.a ai o) ++ owZ) ∗ xy X Y c)) l3 l3_nodup l3_univ fun ai l => ?_
  refine T.step iprop((bigSep Finset.univ fun o => iprop(srcAny (.a ai o) c ∗ ready (.a ai o) c)) ∗
    ow c (((ai :: l).flatMap fun ai => l3.map fun o => Cp.a ai o) ++ owZ)) (gemm_T _) (by ac_rfl) ?_
  exact T.last iprop(xy X Y c) (T.each (fun lo => iprop(accVal X Y c (ai.castLE three_le) ∗ ow c (lo.map (Cp.a ai) ++ ((l.flatMap fun ai => l3.map fun o => Cp.a ai o) ++ owZ))))
    l3 l3_nodup l3_univ fun o lo => a_T ai o _) (by rw [List.flatMap_cons, List.append_assoc]; ac_rfl) (by rw [List.map_nil, List.nil_append]; ac_rfl)

/-! ## The plane sums -/

/-- What has arrived, and how far the arrivals' counts are. -/
theorem got_three (κ : Fin 3 → Cp) : (bigSep Finset.univ fun o => got X Y (κ o) c)
    = iprop((dstVal X Y (κ 0) c ∗ dstVal X Y (κ 1) c ∗ dstVal X Y (κ 2) c) ∗ bigSep Finset.univ fun o => atPos ER (rcvCell (κ o) c) 1 ∅ 0) :=
  (bigSep_sep' _ _ _).trans (congrArg (fun R => iprop(R ∗ bigSep Finset.univ fun o => atPos ER (rcvCell (κ o) c) 1 ∅ 0)) (three _))

theorem rank_map_b (l : List (Fin 5)) : ∀ κ' ∈ l.flatMap (fun bi => l3.map fun o => Cp.b bi o), 2 < rank κ' := by
  intro κ' h
  obtain ⟨bi, -, h⟩ := List.mem_flatMap.mp h
  obtain ⟨o, -, rfl⟩ := List.mem_map.mp h; show 2 < 3; decide
theorem rank_map_az (l : List (Fin 3)) : ∀ κ' ∈ l.map Cp.az ++ owB, 2 < rank κ' := by
  intro κ' h
  rcases List.mem_append.mp h with h | h
  · obtain ⟨ai, -, rfl⟩ := List.mem_map.mp h; show 2 < 3; decide
  · exact rank_map_b l5 κ' h

theorem phase3_T : T X Y K c
    iprop((bigSep Finset.univ fun ai : Fin 3 => iprop(accVal X Y c (ai.castLE three_le) ∗ (bigSep Finset.univ fun o => await (.a ai o) c) ∗ asumAny c ai ∗
      srcAny (.az ai) c ∗ ready (.az ai) c)) ∗ ow c owZ)
    (phase3 c)
    iprop((bigSep Finset.univ fun ai : Fin 3 => iprop(accVal X Y c (ai.castLE three_le) ∗ (bigSep Finset.univ fun o => got X Y (.a ai o) c) ∗ asumVal X Y c ai ∗
      sent (.az ai) c)) ∗ ow c owB) := by
  refine T.each (fun l => ow c (l.map Cp.az ++ owB)) l3 l3_nodup l3_univ fun ai l => ?_
  refine T.step iprop(accVal X Y c (ai.castLE three_le) ∗ asumAny c ai ∗ srcAny (.az ai) c ∗ ready (.az ai) c)
    (T.each (A := fun o => await (.a ai o) c) (B := fun o => got X Y (.a ai o) c) (fun _ => ow c ((ai :: l).map Cp.az ++ owB)) l3 l3_nodup l3_univ
      fun o _ => aWait_T ai o _ (rank_map_az _)) (by ac_rfl) ?_
  rw [got_three fun o => Cp.a ai o]
  refine T.step iprop((bigSep Finset.univ fun o => atPos ER (rcvCell (.a ai o) c) 1 ∅ 0) ∗ srcAny (.az ai) c ∗ ready (.az ai) c ∗ ow c ((ai :: l).map Cp.az ++ owB))
    (asumFill_T ai) (by unfold planeIn; ac_rfl) ?_
  refine T.step iprop((bigSep Finset.univ fun o => atPos ER (rcvCell (.a ai o) c) 1 ∅ 0) ∗ asumVal X Y c ai ∗ ready (.az ai) c ∗ ow c ((ai :: l).map Cp.az ++ owB))
    (azFill_T ai) (by ac_rfl) ?_
  exact T.last iprop(planeIn X Y c ai ∗ (bigSep Finset.univ fun o => atPos ER (rcvCell (.a ai o) c) 1 ∅ 0) ∗ asumVal X Y c ai)
    (azSend_T ai (l.map Cp.az ++ owB)) (by rw [List.map_cons, List.cons_append]; ac_rfl) (by unfold planeIn; ac_rfl)

/-! ## The pair sums -/

theorem b_T (bi : Fin 5) (o : Fin 3) (r : List Cp) : T X Y K c
    iprop((srcAny (.b bi o) c ∗ ready (.b bi o) c) ∗ pairVal X Y c bi ∗ ow c (.b bi o :: r))
    (bFill c bi o >>= fun _ => bSend c bi o)
    iprop(sent (.b bi o) c ∗ pairVal X Y c bi ∗ ow c r) := by
  refine T.step iprop(ready (.b bi o) c ∗ ow c (.b bi o :: r)) (bFill_T bi o) (by ac_rfl) ?_
  exact T.last iprop(pairVal X Y c bi) (bSend_T bi o r) (by ac_rfl) (by ac_rfl)

theorem phase4_T : T X Y K c
    iprop((bigSep Finset.univ fun bi : Fin 5 => iprop(accVal X Y c (Fin.natAdd 3 bi) ∗ await (.zb bi) c ∗ pairAny c bi ∗
      bigSep Finset.univ fun o => iprop(srcAny (.b bi o) c ∗ ready (.b bi o) c))) ∗ ow c owB)
    (phase4 c)
    iprop((bigSep Finset.univ fun bi : Fin 5 => iprop(accVal X Y c (Fin.natAdd 3 bi) ∗ got X Y (.zb bi) c ∗ pairVal X Y c bi ∗
      bigSep Finset.univ fun o => sent (.b bi o) c)) ∗ ow c []) := by
  refine T.each (fun l => ow c (l.flatMap fun bi => l3.map fun o => Cp.b bi o)) l5 l5_nodup l5_univ fun bi l => ?_
  refine T.step iprop(accVal X Y c (Fin.natAdd 3 bi) ∗ pairAny c bi ∗ bigSep Finset.univ fun o => iprop(srcAny (.b bi o) c ∗ ready (.b bi o) c))
    (zbWait_T bi _ (rank_map_b (bi :: l))) (by ac_rfl) ?_
  refine T.step iprop(atPos ER (rcvCell (.zb bi) c) 1 ∅ 0 ∗ (bigSep Finset.univ fun o => iprop(srcAny (.b bi o) c ∗ ready (.b bi o) c)) ∗
    ow c ((bi :: l).flatMap fun bi => l3.map fun o => Cp.b bi o)) (pairFill_T bi) (by unfold got; ac_rfl) ?_
  exact T.last iprop((dstVal X Y (.zb bi) c ∗ accVal X Y c (Fin.natAdd 3 bi)) ∗ atPos ER (rcvCell (.zb bi) c) 1 ∅ 0)
    (T.each (fun lo => iprop(pairVal X Y c bi ∗ ow c (lo.map (Cp.b bi) ++ (l.flatMap fun bi => l3.map fun o => Cp.b bi o))))
      l3 l3_nodup l3_univ fun o lo => b_T bi o _) (by rw [List.flatMap_cons]; ac_rfl) (by rw [List.map_nil, List.nil_append]; unfold got; ac_rfl)

/-! ## The result -/

theorem phase5_T : T X Y K c
    iprop(((bigSep Finset.univ fun ai : Fin 3 => iprop(await (.az ai) c ∗ asumVal X Y c ai ∗ outAny c (ai.castLE three_le))) ∗
      bigSep Finset.univ fun bi : Fin 5 => iprop((bigSep Finset.univ fun o => await (.b bi o) c) ∗ pairVal X Y c bi ∗ outAny c (Fin.natAdd 3 bi))) ∗ ow c [])
    (phase5 c)
    iprop(((bigSep Finset.univ fun ai : Fin 3 => iprop(got X Y (.az ai) c ∗ asumVal X Y c ai ∗ outVal X Y c (ai.castLE three_le))) ∗
      bigSep Finset.univ fun bi : Fin 5 => iprop((bigSep Finset.univ fun o => got X Y (.b bi o) c) ∗ pairVal X Y c bi ∗ outVal X Y c (Fin.natAdd 3 bi))) ∗ ow c []) := by
  unfold phase5
  refine T.step iprop(bigSep Finset.univ fun bi : Fin 5 => iprop((bigSep Finset.univ fun o => await (.b bi o) c) ∗ pairVal X Y c bi ∗ outAny c (Fin.natAdd 3 bi)))
    (T.each (A := fun ai => iprop(await (.az ai) c ∗ asumVal X Y c ai ∗ outAny c (ai.castLE three_le)))
      (B := fun ai => iprop(got X Y (.az ai) c ∗ asumVal X Y c ai ∗ outVal X Y c (ai.castLE three_le))) (fun _ => ow c []) l3 l3_nodup l3_univ fun ai _ => ?_) (by ac_rfl) ?_
  · refine T.step iprop(asumVal X Y c ai ∗ outAny c (ai.castLE three_le)) (azWait_T ai) (by ac_rfl) ?_
    exact T.last iprop(atPos ER (rcvCell (.az ai) c) 1 ∅ 0 ∗ ow c []) (outA_T ai) (by unfold got; ac_rfl) (by unfold got; ac_rfl)
  refine T.last _ (T.each (A := fun bi => iprop((bigSep Finset.univ fun o => await (.b bi o) c) ∗ pairVal X Y c bi ∗ outAny c (Fin.natAdd 3 bi)))
      (B := fun bi => iprop((bigSep Finset.univ fun o => got X Y (.b bi o) c) ∗ pairVal X Y c bi ∗ outVal X Y c (Fin.natAdd 3 bi)))
      (fun _ => ow c []) l5 l5_nodup l5_univ fun bi _ => ?_)
    (show _ = iprop(_ ∗ (bigSep Finset.univ fun ai : Fin 3 => iprop(got X Y (.az ai) c ∗ asumVal X Y c ai ∗ outVal X Y c (ai.castLE three_le)))) by ac_rfl) (by ac_rfl)
  refine T.step iprop(pairVal X Y c bi ∗ outAny c (Fin.natAdd 3 bi))
    (T.each (A := fun o => await (.b bi o) c) (B := fun o => got X Y (.b bi o) c) (fun _ => ow c []) l3 l3_nodup l3_univ fun o _ => bWait_T bi o) (by ac_rfl) ?_
  rw [got_three fun o => Cp.b bi o]
  exact T.last iprop((bigSep Finset.univ fun o => atPos ER (rcvCell (.b bi o) c) 1 ∅ 0) ∗ ow c []) (outB_T bi) (by ac_rfl) (by ac_rfl)

/-! ## The departures -/

theorem phase6_T : T X Y K c
    iprop(((bigSep Finset.univ fun bi => sent (.zb bi) c) ∗ (bigSep Finset.univ fun ai => bigSep Finset.univ fun o => sent (.a ai o) c) ∗
      (bigSep Finset.univ fun ai => sent (.az ai) c) ∗ bigSep Finset.univ fun bi => bigSep Finset.univ fun o => sent (.b bi o) c) ∗ ow c [])
    phase6
    iprop(((bigSep Finset.univ fun bi => gone (.zb bi) c) ∗ (bigSep Finset.univ fun ai => bigSep Finset.univ fun o => gone (.a ai o) c) ∗
      (bigSep Finset.univ fun ai => gone (.az ai) c) ∗ bigSep Finset.univ fun bi => bigSep Finset.univ fun o => gone (.b bi o) c) ∗ ow c []) := by
  unfold phase6
  refine T.step iprop((bigSep Finset.univ fun ai => bigSep Finset.univ fun o => sent (.a ai o) c) ∗
      (bigSep Finset.univ fun ai => sent (.az ai) c) ∗ bigSep Finset.univ fun bi => bigSep Finset.univ fun o => sent (.b bi o) c)
    (T.each (A := fun bi => sent (.zb bi) c) (B := fun bi => gone (.zb bi) c) (fun _ => ow c []) l5 l5_nodup l5_univ fun bi _ => zbDone_T bi) (by ac_rfl) ?_
  refine T.step iprop((bigSep Finset.univ fun bi => gone (.zb bi) c) ∗
      (bigSep Finset.univ fun ai => sent (.az ai) c) ∗ bigSep Finset.univ fun bi => bigSep Finset.univ fun o => sent (.b bi o) c)
    (T.each (A := fun ai => bigSep Finset.univ fun o => sent (.a ai o) c) (B := fun ai => bigSep Finset.univ fun o => gone (.a ai o) c) (fun _ => ow c []) l3 l3_nodup l3_univ
      fun ai _ => T.each (A := fun o => sent (.a ai o) c) (B := fun o => gone (.a ai o) c) (fun _ => ow c []) l3 l3_nodup l3_univ fun o _ => aDone_T ai o) (by ac_rfl) ?_
  refine T.step iprop((bigSep Finset.univ fun bi => gone (.zb bi) c) ∗ (bigSep Finset.univ fun ai => bigSep Finset.univ fun o => gone (.a ai o) c) ∗
      bigSep Finset.univ fun bi => bigSep Finset.univ fun o => sent (.b bi o) c)
    (T.each (A := fun ai => sent (.az ai) c) (B := fun ai => gone (.az ai) c) (fun _ => ow c []) l3 l3_nodup l3_univ fun ai _ => azDone_T ai) (by ac_rfl) ?_
  exact T.last iprop((bigSep Finset.univ fun bi => gone (.zb bi) c) ∗ (bigSep Finset.univ fun ai => bigSep Finset.univ fun o => gone (.a ai o) c) ∗
      bigSep Finset.univ fun ai => gone (.az ai) c)
    (T.each (A := fun bi => bigSep Finset.univ fun o => sent (.b bi o) c) (B := fun bi => bigSep Finset.univ fun o => gone (.b bi o) c) (fun _ => ow c []) l5 l5_nodup l5_univ
      fun bi _ => T.each (A := fun o => sent (.b bi o) c) (B := fun o => gone (.b bi o) c) (fun _ => ow c []) l3 l3_nodup l3_univ fun o _ => bDone_T bi o) (by ac_rfl) (by ac_rfl)

end Cert.Dot

end
-- ==== Proof.Body.lean ====
/-
The body: from the slots at any contents to the result's slots filled.
-/
module

public import proofs.«01_k».proof.Proof.Phases

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {X : Dev nD → Vec F S512x512 .f32} {Y : Dev nD → Vec F S512x2048 .f32} {K : Dev nD × Cell → ℕ} {c : Dev nD}

/-! Of each copy of a kind, of each column block of a kind. -/

def oZb (Φ : Cp → sProp 𝕄) : sProp 𝕄 := bigSep Finset.univ fun bi => Φ (.zb bi)
def oA (Φ : Cp → sProp 𝕄) : sProp 𝕄 := bigSep Finset.univ fun ai => bigSep Finset.univ fun o => Φ (.a ai o)
def oAz (Φ : Cp → sProp 𝕄) : sProp 𝕄 := bigSep Finset.univ fun ai => Φ (.az ai)
def oB (Φ : Cp → sProp 𝕄) : sProp 𝕄 := bigSep Finset.univ fun bi => bigSep Finset.univ fun o => Φ (.b bi o)
def cA (Φ : Fin 8 → sProp 𝕄) : sProp 𝕄 := bigSep Finset.univ fun ai : Fin 3 => Φ (ai.castLE three_le)
def cB (Φ : Fin 8 → sProp 𝕄) : sProp 𝕄 := bigSep Finset.univ fun bi : Fin 5 => Φ (Fin.natAdd 3 bi)

/-- The slots of the buffers that stay on the device, at any contents; -/
def slotsAny (c : Dev nD) : sProp 𝕄 := iprop((bigSep Finset.univ fun st => accAny c st) ∗ (bigSep Finset.univ fun ai => asumAny c ai) ∗
  (bigSep Finset.univ fun bi => pairAny c bi) ∗ bigSep Finset.univ fun st => outAny c st)
/-- filled. -/
def slotsVal (X : Dev nD → Vec F S512x512 .f32) (Y : Dev nD → Vec F S512x2048 .f32) (c : Dev nD) : sProp 𝕄 :=
  iprop((bigSep Finset.univ fun st => accVal X Y c st) ∗ (bigSep Finset.univ fun ai => asumVal X Y c ai) ∗
  (bigSep Finset.univ fun bi => pairVal X Y c bi) ∗ bigSep Finset.univ fun st => outVal X Y c st)

/-- What a device's entry signals need. -/
def sigs (c : Dev nD) : sProp 𝕄 :=
  bigSep Finset.univ fun k => iprop(dutyTok ER (barCell (sigDev k c)) 0 (sgn k) ∗ barPay (sigDev k c) (sgn k))

/-- What a device's body starts from, -/
def before (X : Dev nD → Vec F S512x512 .f32) (Y : Dev nD → Vec F S512x2048 .f32) (c : Dev nD) : sProp 𝕄 :=
  iprop(slotsAny c ∗ (bigSep Finset.univ fun κ => srcAny κ c) ∗ (bigSep Finset.univ fun κ => tok κ c) ∗ (bigSep Finset.univ fun κ => await κ c) ∗
    (cred (tallyAt (barCell c) () 4) ∗ atPos ER (barCell c) 0 ∅ 0) ∗ (sigs c ∗ owSig c [0, 1, 2, 3]) ∗ xy X Y c)
/-- and what it ends with. -/
def after (X : Dev nD → Vec F S512x512 .f32) (Y : Dev nD → Vec F S512x2048 .f32) (c : Dev nD) : sProp 𝕄 :=
  iprop(slotsVal X Y c ∗ (bigSep Finset.univ fun κ => gone κ c) ∗ (bigSep Finset.univ fun κ => got X Y κ c) ∗ atPos ER (barCell c) 1 ∅ 0 ∗ ow c [] ∗ xy X Y c)

/-- The body after the device knows its index. -/
theorem body_T : T X Y K c (before X Y c)
    (signals c >>= fun _ => phase1 c >>= fun _ => phase2 c >>= fun _ => phase3 c >>= fun _ => phase4 c >>= fun _ => phase5 c >>= fun _ => phase6) (after X Y c) := by
  refine T.step iprop(slotsAny c ∗ (bigSep Finset.univ fun κ => srcAny κ c) ∗ (bigSep Finset.univ fun κ => tok κ c) ∗ (bigSep Finset.univ fun κ => await κ c) ∗
    (cred (tallyAt (barCell c) () 4) ∗ atPos ER (barCell c) 0 ∅ 0) ∗ xy X Y c) signals_T (by unfold before sigs; ac_rfl) ?_
  refine T.step iprop(cA (accAny c) ∗ (bigSep Finset.univ fun i => asumAny c i) ∗ (bigSep Finset.univ fun i => pairAny c i) ∗ cA (outAny c) ∗ cB (outAny c) ∗ oA (fun κ => srcAny κ c) ∗ oAz (fun κ => srcAny κ c) ∗ oB (fun κ => srcAny κ c) ∗
    oZb (fun κ => await κ c) ∗ oA (fun κ => await κ c) ∗ oAz (fun κ => await κ c) ∗ oB (fun κ => await κ c))
    phase1_T (by unfold slotsAny cA cB oZb oA oAz oB; simp only [kinds, three_five, bigSep_sep']; eta_reduce; ac_rfl) ?_
  refine T.step iprop(cB (accVal X Y c) ∗ oZb (fun κ => sent κ c) ∗ oAz (fun κ => ready κ c) ∗ oB (fun κ => ready κ c) ∗ atPos ER (barCell c) 1 ∅ 0 ∗
    (bigSep Finset.univ fun i => asumAny c i) ∗ (bigSep Finset.univ fun i => pairAny c i) ∗ cA (outAny c) ∗ cB (outAny c) ∗ oAz (fun κ => srcAny κ c) ∗ oB (fun κ => srcAny κ c) ∗
    oZb (fun κ => await κ c) ∗ oA (fun κ => await κ c) ∗ oAz (fun κ => await κ c) ∗ oB (fun κ => await κ c))
    phase2_T (by unfold cA cB oZb oA oAz oB; simp only [bigSep_sep']; eta_reduce; ac_rfl) ?_
  refine T.step iprop(xy X Y c ∗ cB (accVal X Y c) ∗ oZb (fun κ => sent κ c) ∗ oA (fun κ => sent κ c) ∗ oB (fun κ => ready κ c) ∗ atPos ER (barCell c) 1 ∅ 0 ∗
    (bigSep Finset.univ fun i => pairAny c i) ∗ cA (outAny c) ∗ cB (outAny c) ∗ oB (fun κ => srcAny κ c) ∗
    oZb (fun κ => await κ c) ∗ oAz (fun κ => await κ c) ∗ oB (fun κ => await κ c))
    phase3_T (by unfold cA cB oZb oA oAz oB; simp only [bigSep_sep']; eta_reduce; ac_rfl) ?_
  refine T.step iprop(xy X Y c ∗ cA (accVal X Y c) ∗ oA (fun κ => got X Y κ c) ∗ (bigSep Finset.univ fun i => asumVal X Y c i) ∗ oZb (fun κ => sent κ c) ∗ oA (fun κ => sent κ c) ∗ oAz (fun κ => sent κ c) ∗
    atPos ER (barCell c) 1 ∅ 0 ∗ cA (outAny c) ∗ cB (outAny c) ∗ oAz (fun κ => await κ c) ∗ oB (fun κ => await κ c))
    phase4_T (by unfold cA cB oZb oA oAz oB; simp only [bigSep_sep']; eta_reduce; ac_rfl) ?_
  refine T.step iprop(xy X Y c ∗ cA (accVal X Y c) ∗ cB (accVal X Y c) ∗ oA (fun κ => got X Y κ c) ∗ oZb (fun κ => got X Y κ c) ∗
    oZb (fun κ => sent κ c) ∗ oA (fun κ => sent κ c) ∗ oAz (fun κ => sent κ c) ∗ oB (fun κ => sent κ c) ∗ atPos ER (barCell c) 1 ∅ 0)
    phase5_T (by unfold cA cB oZb oA oAz oB; simp only [bigSep_sep']; eta_reduce; ac_rfl) ?_
  exact T.last iprop(xy X Y c ∗ cA (accVal X Y c) ∗ cB (accVal X Y c) ∗ oA (fun κ => got X Y κ c) ∗ oZb (fun κ => got X Y κ c) ∗ oAz (fun κ => got X Y κ c) ∗
    oB (fun κ => got X Y κ c) ∗ (bigSep Finset.univ fun i => asumVal X Y c i) ∗ (bigSep Finset.univ fun i => pairVal X Y c i) ∗ cA (outVal X Y c) ∗ cB (outVal X Y c) ∗ atPos ER (barCell c) 1 ∅ 0)
    phase6_T (by unfold cA cB oZb oA oAz oB; simp only [bigSep_sep']; eta_reduce; ac_rfl)
    (by unfold after slotsVal cA cB oZb oA oAz oB; simp only [kinds, three_five]; eta_reduce; ac_rfl)

end Cert.Dot

end
-- ==== Proof.Slots.lean ====
/-
Whole buffers and their slots: every buffer of the protocol is cut into its slots before the body and put together
again after it, and a device's landing slots are what its entry signals hand out.
-/
module

public import proofs.«01_k».proof.Proof.Body
public import Idealize.ShloMosaic.Lib.Ring

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Device `c` holds a whole buffer, at any contents. -/
abbrev whole (c : Dev nD) (b : Ref sig .tc) : sProp 𝕄 := iprop(∃ f : Buf (Elt F) ((c : Thread nD τ).loc b), ((c : Thread nD τ).loc b) ↦{fullShare} f)

section Cut
variable {B : Type} [Fintype B] [DecidableEq B] {c : Dev nD} {b : Ref sig .tc} {I : B → Finset (Idx ((c : Thread nD τ).loc b))}

/-- The sets are told apart by a key of the index. -/
def Keyed (c : Dev nD) (b : Ref sig .tc) (I : B → Finset (Idx ((c : Thread nD τ).loc b))) : Prop := ∃ key : Idx ((c : Thread nD τ).loc b) → B, ∀ k i, i ∈ I k ↔ key i = k

/-- Sets told apart by a key are disjoint; -/
theorem key_disj (h : Keyed c b I) (k k' : B) (hk : k ≠ k') : Disjoint (I k) (I k') := by
  obtain ⟨key, h⟩ := h
  rw [Finset.disjoint_left]
  intro i h1 h2
  exact hk (((h k i).mp h1).symm.trans ((h k' i).mp h2))
/-- and make up the whole. -/
theorem key_cover (h : Keyed c b I) : Finset.univ.biUnion I = Finset.univ := by
  obtain ⟨key, h⟩ := h
  ext i
  simp only [Finset.mem_biUnion, Finset.mem_univ, true_and, iff_true]
  exact ⟨key i, (h _ i).mpr rfl⟩

/-- A buffer at given contents is its slots at them; -/
theorem cut_val (h : Keyed c b I) (f : Buf (Elt F) ((c : Thread nD τ).loc b)) :
    (((c : Thread nD τ).loc b) ↦{fullShare} f : sProp 𝕄) = bigSep Finset.univ fun k => valAt c b (I k) f :=
  Ring.pointsTo_blocks I (key_disj h) (key_cover h) f
/-- at any contents it yields its slots, -/
theorem cut_any (h : Keyed c b I) : whole c b ⊢ (bigSep Finset.univ fun k => anyAt c b (I k) : sProp 𝕄) := by
  iintro ⟨%f, H⟩
  iapply ((Entails.of_eq (cut_val h f)).trans (bigSep_mono fun k _ => valAt_any c b (I k) f))
  iexact H
/-- and they yield it. -/
theorem join_any (h : Keyed c b I) (f₀ : Buf (Elt F) ((c : Thread nD τ).loc b)) :
    (bigSep Finset.univ fun k => anyAt c b (I k) : sProp 𝕄) ⊢ whole c b :=
  Ring.pointsTo_blocks_join_exists I (key_disj h) (key_cover h) f₀
end Cut

/-! ## The keys -/

/-- The column block an index lies in. -/
def col (i : Fin 2048) : Fin 8 := ⟨i.val / 256, by omega⟩
theorem key_strip (st : Fin 8) (i : S512x2048.Idx) : i ∈ (stripR st).set ↔ col (i 1) = st := by
  rw [mem_stripR, Fin.ext_iff]; rfl
theorem key_ocol (st : Fin 8) (i : S64x2048.Idx) : i ∈ (ocolR st).set ↔ col (i 1) = st := by
  rw [mem_ocolR, Fin.ext_iff]; rfl
theorem key_a (k : Fin 3 × Fin 3) (i : S3x3x2x64x256.Idx) : i ∈ (aR k.1 k.2).set ↔ ((i 0, i 1) : Fin 3 × Fin 3) = k := by
  obtain ⟨a, o⟩ := k; rw [mem_aR]; exact (Prod.mk.injEq ..).symm ▸ Iff.rfl
theorem key_b (k : Fin 5 × Fin 3) (i : S5x3x64x256.Idx) : i ∈ (bR k.1 k.2).set ↔ ((i 0, i 1) : Fin 5 × Fin 3) = k := by
  obtain ⟨b, o⟩ := k; rw [mem_bR]; exact (Prod.mk.injEq ..).symm ▸ Iff.rfl

/-! The slots of each buffer, told apart. -/

theorem keyed_acc (c : Dev nD) : Keyed c cc0_scratch0 fun st : Fin 8 => (stripR st).set := ⟨_, key_strip⟩
theorem keyed_abuf (c : Dev nD) : Keyed c cc0_scratch1 fun k : Fin 3 × Fin 3 => (aR k.1 k.2).set := ⟨_, key_a⟩
theorem keyed_arecv (c : Dev nD) : Keyed c cc0_scratch2 fun k : Fin 3 × Fin 3 => (aR k.1 k.2).set := ⟨_, key_a⟩
theorem keyed_asum (c : Dev nD) : Keyed c cc0_scratch3 fun ai : Fin 3 => (azR ai).set := ⟨_, mem_azR⟩
theorem keyed_azs (c : Dev nD) : Keyed c cc0_scratch4 fun ai : Fin 3 => (azR ai).set := ⟨_, mem_azR⟩
theorem keyed_azr (c : Dev nD) : Keyed c cc0_scratch5 fun ai : Fin 3 => (azR ai).set := ⟨_, mem_azR⟩
theorem keyed_zbs (c : Dev nD) : Keyed c cc0_scratch6 fun bi : Fin 5 => (zbR bi).set := ⟨_, mem_zbR⟩
theorem keyed_zbr (c : Dev nD) : Keyed c cc0_scratch7 fun bi : Fin 5 => (zbR bi).set := ⟨_, mem_zbR⟩
theorem keyed_pair (c : Dev nD) : Keyed c cc0_scratch8 fun bi : Fin 5 => (zbR bi).set := ⟨_, mem_zbR⟩
theorem keyed_bbuf (c : Dev nD) : Keyed c cc0_scratch9 fun k : Fin 5 × Fin 3 => (bR k.1 k.2).set := ⟨_, key_b⟩
theorem keyed_brecv (c : Dev nD) : Keyed c cc0_scratch10 fun k : Fin 5 × Fin 3 => (bR k.1 k.2).set := ⟨_, key_b⟩
theorem keyed_out (c : Dev nD) : Keyed c cc0_stg2_0 fun st : Fin 8 => (ocolR st).set := ⟨_, key_ocol⟩

variable (X : Dev nD → Vec F S512x512 .f32) (Y : Dev nD → Vec F S512x2048 .f32) (c : Dev nD)

/-- The slots of every scratch buffer, at any contents. -/
def scratchSlots : sProp 𝕄 := iprop((bigSep Finset.univ fun st => accAny c st) ∗ (bigSep Finset.univ fun ai => asumAny c ai) ∗
  (bigSep Finset.univ fun bi => pairAny c bi) ∗ (bigSep Finset.univ fun κ => srcAny κ c) ∗ bigSep Finset.univ fun κ => dstAny κ c)

/-- The slots, buffer by buffer. -/
theorem scratchSlots_eq : (scratchSlots c : sProp 𝕄) = iprop(
    (bigSep Finset.univ fun st : Fin 8 => anyAt c cc0_scratch0 (stripR st).set)
    ∗ (bigSep Finset.univ fun k : Fin 3 × Fin 3 => anyAt c cc0_scratch1 (aR k.1 k.2).set)
    ∗ (bigSep Finset.univ fun k : Fin 3 × Fin 3 => anyAt c cc0_scratch2 (aR k.1 k.2).set)
    ∗ (bigSep Finset.univ fun ai : Fin 3 => anyAt c cc0_scratch3 (azR ai).set)
    ∗ (bigSep Finset.univ fun ai : Fin 3 => anyAt c cc0_scratch4 (azR ai).set)
    ∗ (bigSep Finset.univ fun ai : Fin 3 => anyAt c cc0_scratch5 (azR ai).set)
    ∗ (bigSep Finset.univ fun bi : Fin 5 => anyAt c cc0_scratch6 (zbR bi).set)
    ∗ (bigSep Finset.univ fun bi : Fin 5 => anyAt c cc0_scratch7 (zbR bi).set)
    ∗ (bigSep Finset.univ fun bi : Fin 5 => anyAt c cc0_scratch8 (zbR bi).set)
    ∗ (bigSep Finset.univ fun k : Fin 5 × Fin 3 => anyAt c cc0_scratch9 (bR k.1 k.2).set)
    ∗ (bigSep Finset.univ fun k : Fin 5 × Fin 3 => anyAt c cc0_scratch10 (bR k.1 k.2).set)) := by
  unfold scratchSlots accAny asumAny pairAny
  simp only [bigSep_univ_sum]
  show iprop(_ ∗ _ ∗ _ ∗ ((bigSep Finset.univ fun bi : Fin 5 => anyAt c cc0_scratch6 (zbR bi).set)
      ∗ (bigSep Finset.univ fun k : Fin 3 × Fin 3 => anyAt c cc0_scratch1 (aR k.1 k.2).set)
      ∗ (bigSep Finset.univ fun ai : Fin 3 => anyAt c cc0_scratch4 (azR ai).set)
      ∗ (bigSep Finset.univ fun k : Fin 5 × Fin 3 => anyAt c cc0_scratch9 (bR k.1 k.2).set))
    ∗ ((bigSep Finset.univ fun bi : Fin 5 => anyAt c cc0_scratch7 (zbR bi).set)
      ∗ (bigSep Finset.univ fun k : Fin 3 × Fin 3 => anyAt c cc0_scratch2 (aR k.1 k.2).set)
      ∗ (bigSep Finset.univ fun ai : Fin 3 => anyAt c cc0_scratch5 (azR ai).set)
      ∗ (bigSep Finset.univ fun k : Fin 5 × Fin 3 => anyAt c cc0_scratch10 (bR k.1 k.2).set))) = _
  ac_rfl

/-- The scratch buffers, whole, yield their slots, -/
theorem scratch_cut : (Pipeline.scopedRest spec0 c : sProp 𝕄) ⊢ scratchSlots c := by
  rw [scratchSlots_eq, scopedRest0_eq]
  exact Laws.sep_mono (cut_any (keyed_acc c)) <| Laws.sep_mono (cut_any (keyed_abuf c)) <| Laws.sep_mono (cut_any (keyed_arecv c)) <|
    Laws.sep_mono (cut_any (keyed_asum c)) <| Laws.sep_mono (cut_any (keyed_azs c)) <| Laws.sep_mono (cut_any (keyed_azr c)) <|
    Laws.sep_mono (cut_any (keyed_zbs c)) <| Laws.sep_mono (cut_any (keyed_zbr c)) <| Laws.sep_mono (cut_any (keyed_pair c)) <|
    Laws.sep_mono (cut_any (keyed_bbuf c)) (cut_any (keyed_brecv c))

include X Y in
/-- and the slots yield them. -/
theorem scratch_join : (scratchSlots c : sProp 𝕄) ⊢ Pipeline.scopedRest spec0 c := by
  rw [scratchSlots_eq, scopedRest0_eq]
  exact Laws.sep_mono (join_any (keyed_acc c) (accG X Y c)) <| Laws.sep_mono (join_any (keyed_abuf c) (abufG X Y c)) <|
    Laws.sep_mono (join_any (keyed_arecv c) (arecvG X Y c)) <| Laws.sep_mono (join_any (keyed_asum c) (asumG X Y c)) <|
    Laws.sep_mono (join_any (keyed_azs c) (azsG X Y c)) <| Laws.sep_mono (join_any (keyed_azr c) (azrG X Y c)) <|
    Laws.sep_mono (join_any (keyed_zbs c) (zbsG X Y c)) <| Laws.sep_mono (join_any (keyed_zbr c) (zbrG X Y c)) <|
    Laws.sep_mono (join_any (keyed_pair c) (pairG X Y c)) <| Laws.sep_mono (join_any (keyed_bbuf c) (bbufG X Y c)) (join_any (keyed_brecv c) (brecvG X Y c))

/-- The result's staging buffer yields its column blocks, -/
theorem out_cut : (whole c cc0_stg2_0 : sProp 𝕄) ⊢ bigSep Finset.univ fun st => outAny c st := cut_any (keyed_out c)
/-- and these, filled, are the buffer filled. -/
theorem out_join : (bigSep Finset.univ fun st => outVal X Y c st : sProp 𝕄) = (((c : Thread nD τ).loc cc0_stg2_0) ↦{fullShare} outG X Y c) :=
  (cut_val (keyed_out c) (outG X Y c)).symm

/-! ## The landing slots and the entry signals -/

theorem sgn_bij : Function.Bijective sgn := by decide

/-- A device's landing slots are what its entry signals hand to the peers. -/
theorem landing_eq : (bigSep Finset.univ fun κ => dstAny κ c : sProp 𝕄) = bigSep Finset.univ fun k => barPay (sigDev k c) (sgn k) := by
  rw [← by_dir fun _ κ => dstAny κ c,
    bigSep_univ_equiv (Equiv.ofBijective sgn sgn_bij) fun d => bigSep Finset.univ fun κ => if dir κ = d then dstAny (F := F) κ c else iprop(emp)]
  exact bigSep_congr fun k _ => (barPay_sig k c).symm

end Cert.Dot

end
-- ==== Proof.Device.lean ====
/-
One device's run of the whole kernel body: from its share of the protocol and whole buffers at any contents to the
result's staging buffer filled, the scratch buffers whole again and every semaphore closed at zero.
-/
module

public import proofs.«01_k».proof.Proof.Slots

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A device's semaphores are its barrier, its departures and its arrivals. -/
theorem by_cell (Φ : Cell → sProp 𝕄) :
    bigSep Finset.univ Φ = iprop(Φ .bar ∗ (bigSep Finset.univ fun κ => Φ (.snd κ)) ∗ bigSep Finset.univ fun κ => Φ (.rcv κ)) := by
  rw [bigSep_univ_sum, bigSep_univ_sum, Finset.univ_unique, bigSep_singleton]; rfl

/-- A fact kept by everyone, and one thing for each element. -/
theorem bigSep_keep {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- A device's positions on its semaphores and the tokens of the credits it will pay. -/
def linear (c : Dev nD) : sProp 𝕄 := iprop((bigSep Finset.univ fun k : Cell => atPos ER (kcell (c, k)) 0 ∅ 0)
  ∗ (bigSep Finset.univ fun k => dutyTok ER (barCell (sigDev k c)) 0 (sgn k))
  ∗ (bigSep Finset.univ fun κ => dutyTok ER (sndCell κ c) 0 0) ∗ bigSep Finset.univ fun κ => dutyTok ER (rcvCell κ (tgt c (dir κ))) 0 0)
/-- The credits its peers will give it. -/
def creds (c : Dev nD) : sProp 𝕄 :=
  iprop(cred (tallyAt (barCell c) () 4) ∗ bigSep Finset.univ fun κ => cred (tallyAt (rcvCell κ c) () (amt κ)))
/-- Its semaphores, closed at zero. -/
def closed (c : Dev nD) : sProp 𝕄 := bigSep Finset.univ fun k : Cell => semVal (kcell (c, k)) 0

variable (X : Dev nD → Vec F S512x512 .f32) (Y : Dev nD → Vec F S512x2048 .f32)

/-- A device's share of the protocol. -/
def start (c : Dev nD) : sProp 𝕄 := iprop(∃ K, known X Y K ∗ linear c ∗ creds c)

variable {X Y} {K : Dev nD × Cell → ℕ} {c : Dev nD}

/-- The share of the protocol and the slots are what the body starts from. -/
theorem enter_body : iprop(linear c ∗ creds c ∗ scratchSlots c ∗ (bigSep Finset.univ fun st => outAny c st) ∗ owSig c [0, 1, 2, 3] ∗ xy X Y c) ⊢ before X Y c :=
  Entails.of_eq (by
    unfold linear creds scratchSlots before slotsAny sigs tok await
    rw [landing_eq, by_cell]
    simp only [bigSep_sep']
    ac_rfl)

/-- A semaphore whose round is over closes at zero. -/
theorem close_cell (k : Cell) : iprop(known X Y K ∗ atPos ER (kcell (c, k)) 1 ∅ 0) ⊢ |={Set.univ}=> (semVal (kcell (c, k)) 0 : sProp 𝕄) :=
  (sep_mono_left (known_inv X Y K (c, k))).trans
    (Rounds.cell_close ER (sched X Y) (Set.mem_univ _) (fun h => h) (R := 0 + 1) (duties_later X Y _))

/-- What the body ends with, its semaphores closed and the slots put together. -/
theorem leave_body : iprop(known X Y K ∗ after X Y c) ⊢ |={Set.univ}=> iprop((Pipeline.scopedRest spec0 c ∗ closed c) ∗ ow c [] ∗ xy X Y c
    ∗ (((c : Thread nD τ).loc cc0_stg2_0) ↦{fullShare} outG X Y c)) := by
  have hany : iprop(slotsVal X Y c ∗ (bigSep Finset.univ fun κ => srcAny κ c) ∗ (bigSep Finset.univ fun κ => dstVal X Y κ c))
      ⊢ iprop(Pipeline.scopedRest spec0 c ∗ (((c : Thread nD τ).loc cc0_stg2_0) ↦{fullShare} outG X Y c)) := by
    have h1 : iprop((bigSep Finset.univ fun st => accVal X Y c st) ∗ (bigSep Finset.univ fun ai => asumVal X Y c ai) ∗ (bigSep Finset.univ fun bi => pairVal X Y c bi)
        ∗ (bigSep Finset.univ fun κ => srcAny κ c) ∗ bigSep Finset.univ fun κ => dstVal X Y κ c) ⊢ scratchSlots c :=
      Laws.sep_mono (bigSep_mono fun st _ => valAt_any _ _ _ _) <| Laws.sep_mono (bigSep_mono fun st _ => valAt_any _ _ _ _) <|
        Laws.sep_mono (bigSep_mono fun st _ => valAt_any _ _ _ _) <| Laws.sep_mono .rfl (bigSep_mono fun κ _ => dstVal_any X Y κ c)
    refine (Entails.of_eq (Q := iprop(((bigSep Finset.univ fun st => accVal X Y c st) ∗ (bigSep Finset.univ fun ai => asumVal X Y c ai) ∗ (bigSep Finset.univ fun bi => pairVal X Y c bi)
        ∗ (bigSep Finset.univ fun κ => srcAny κ c) ∗ bigSep Finset.univ fun κ => dstVal X Y κ c) ∗ bigSep Finset.univ fun st => outVal X Y c st)) ?_).trans
      (Laws.sep_mono (h1.trans (scratch_join X Y c)) (Entails.of_eq (out_join X Y c)))
    unfold slotsVal; ac_rfl
  have hat : iprop(known X Y K ∗ bigSep Finset.univ fun k : Cell => atPos ER (kcell (c, k)) 1 ∅ 0) ⊢ |={Set.univ}=> closed c :=
    (bigSep_keep fun k => close_cell k).trans (bigSep_fupd _ _)
  have he : after X Y c = iprop((slotsVal X Y c ∗ (bigSep Finset.univ fun κ => srcAny κ c) ∗ (bigSep Finset.univ fun κ => dstVal X Y κ c))
      ∗ (bigSep Finset.univ fun k : Cell => atPos ER (kcell (c, k)) 1 ∅ 0) ∗ ow c [] ∗ xy X Y c) := by
    unfold after gone got
    rw [by_cell]
    simp only [bigSep_sep']
    ac_rfl
  rw [he]
  iintro ⟨#HK, Hs, Hat, Ho, Hxy⟩
  imod hat $$ [Hat] with Hc
  · isplitr; · iexact HK
    iexact Hat
  ihave Hs := hany $$ Hs
  icases Hs with ⟨Hr, Hout⟩
  imodintro
  isplitl [Hr Hc]
  · isplitl [Hr] <;> iassumption
  isplitl [Ho]; · iexact Ho
  isplitl [Hxy] <;> iassumption

/-- One device's run of the kernel body. -/
theorem run_steps : iprop(start X Y c ∗ Pipeline.scopedRest spec0 c ∗ owSig c [0, 1, 2, 3] ∗ xy X Y c ∗ whole c cc0_stg2_0)
    ⊢ run c (steps (F := F)) fun _ => iprop((Pipeline.scopedRest spec0 c ∗ closed c) ∗ ow c [] ∗ xy X Y c
      ∗ (((c : Thread nD τ).loc cc0_stg2_0) ↦{fullShare} outG X Y c)) := by
  have hs : (steps : P F PUnit) = .op .deviceId fun c : Dev nD =>
      signals c >>= fun _ => phase1 c >>= fun _ => phase2 c >>= fun _ => phase3 c >>= fun _ => phase4 c >>= fun _ => phase5 c >>= fun _ => phase6 := rfl
  rw [hs, run, wp_deviceId]
  unfold start
  iintro ⟨⟨%K, #HK, Hl, Hc⟩, Hr, Ho, Hxy, Hout⟩
  ihave Hr := (scratch_cut c) $$ Hr
  ihave Hout := (out_cut c) $$ Hout
  ihave Hb := enter_body $$ [Hl Hc Hr Hout Ho Hxy]
  · isplitl [Hl]; · iexact Hl
    isplitl [Hc]; · iexact Hc
    isplitl [Hr]; · iexact Hr
    isplitl [Hout]; · iexact Hout
    isplitl [Ho] <;> iassumption
  have hb : iprop(known X Y K ∗ before X Y c) ⊢ run c _ _ := body_T
  iapply (wp_fupd frame (wpE (defs₀ (F := F)) 𝒱₀ (c : Thread nD τ) none) Set.univ)
  ihave Hw := hb $$ [Hb]
  · isplitr; · iexact HK
    iexact Hb
  iapply (wp_wand frame (wpE (defs₀ (F := F)) 𝒱₀ (c : Thread nD τ) none) Set.univ) $$ Hw
  iintro %a Ha
  iapply leave_body
  isplitr; · iexact HK
  iexact Ha

end Cert.Dot

end
-- ==== Proof.Ghost.lean ====
/-
The protocol's records at launch: the semaphores' round states and duty tokens are minted, every semaphore's invariant
is allocated, the tokens go to the devices that pay them, and the credits of what the peers owe to the devices that wait.
-/
module

public import proofs.«01_k».proof.Proof.Device
public import Idealize.ShloMosaic.Lib.Pipeline.Launch
public import Idealize.ShloMosaic.Lib.Pipeline.Kit

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The semaphores -/

/-- The kernel's own DMA semaphores. -/
abbrev osem (k : Cp ⊕ Cp) : SemLoc sig := csem (.inr k)

theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The barrier's semaphore and the kernel's own are the protocol's. -/
theorem closed_eq (c : Dev nD) : (closed c : sProp 𝕄)
    = iprop(unscopedSems0 c ∗ Pipeline.ownSems0 (Ix := Unit) (Name := ℕ) (U := UU) (Lvl := ℕ) (Val := Elt F) (τ := τ) osem c) := by
  unfold closed Pipeline.ownSems0
  rw [unscopedSems0_eq, bigSep_univ_sum, Finset.univ_unique, bigSep_singleton]; rfl

/-! ## Minting -/

/-- Every semaphore of the protocol. -/
def allCells : Finset (GSem nD τ sig) := Finset.univ.map ⟨kcell, kcell_injective⟩

/-- The duties of a device's semaphores: a barrier's from each position, a departure's, an arrival's. -/
abbrev Duty : Type := Fin 4 ⊕ Cp ⊕ Cp
def dutyCell : Duty → Cell | .inl _ => .bar | .inr k => .inr k
def dutyNo : Duty → Fin 4 | .inl d => d | .inr _ => 0
def tokOf (ck : Dev nD × Duty) : GSem nD τ sig × ℕ × Fin 4 := (kcell (ck.1, dutyCell ck.2), 0, dutyNo ck.2)
theorem tokOf_injective : Function.Injective tokOf := by
  rintro ⟨c, j⟩ ⟨c', j'⟩ h
  have h1 := kcell_injective (congrArg Prod.fst h)
  have h2 : dutyNo j = dutyNo j' := congrArg (fun x => x.2.2) h
  obtain ⟨hc, hk⟩ := Prod.mk.inj h1
  refine Prod.ext hc ?_
  rcases j with d | k <;> rcases j' with d' | k'
  · exact congrArg Sum.inl h2
  · exact absurd hk (by simp [dutyCell])
  · exact absurd hk (by simp [dutyCell])
  · exact congrArg Sum.inr (Sum.inr.inj hk)
def allToks : Finset (GSem nD τ sig × ℕ × Fin 4) := Finset.univ.map ⟨tokOf, tokOf_injective⟩

/-- What the run starts from: the pipeline's records and the protocol's. -/
def u₀ : UU := (initOf (Pipeline.cells cfgs cellOf_inj) (Pipeline.launchToks cfgs cellOf_inj), initOf allCells allToks)

/-- The tokens of the duties of device `c`'s own semaphores, -/
def toks (c : Dev nD) : sProp 𝕄 := iprop((bigSep Finset.univ fun d : Fin 4 => dutyTok ER (barCell c) 0 d)
  ∗ (bigSep Finset.univ fun κ : Cp => dutyTok ER (sndCell κ c) 0 0) ∗ bigSep Finset.univ fun κ : Cp => dutyTok ER (rcvCell κ c) 0 0)
/-- and of the duties it pays. -/
def payToks (c : Dev nD) : sProp 𝕄 := iprop((bigSep Finset.univ fun k => dutyTok ER (barCell (sigDev k c)) 0 (sgn k))
  ∗ (bigSep Finset.univ fun κ => dutyTok ER (sndCell κ c) 0 0) ∗ bigSep Finset.univ fun κ => dutyTok ER (rcvCell κ (tgt c (dir κ))) 0 0)

theorem sig_bij : Function.Bijective fun p : Dev nD × Fin 4 => ((sigDev p.2 p.1, sgn p.2) : Dev nD × Fin 4) := by decide +kernel
theorem tgt_bij : ∀ d : Fin 4, Function.Bijective fun c : Dev nD => tgt c d := by decide +kernel

/-- The tokens, dealt to the devices that pay them. -/
theorem toks_deal : (bigSep Finset.univ fun c : Dev nD => (toks c : sProp 𝕄)) = bigSep Finset.univ fun c : Dev nD => payToks c := by
  unfold toks payToks
  simp only [bigSep_sep']
  have h1 : (bigSep Finset.univ fun c : Dev nD => bigSep Finset.univ fun d : Fin 4 => (dutyTok ER (barCell c) 0 d : sProp 𝕄))
      = bigSep Finset.univ fun c : Dev nD => bigSep Finset.univ fun k : Fin 4 => dutyTok ER (barCell (sigDev k c)) 0 (sgn k) := by
    rw [← bigSep_univ_prod (fun p : Dev nD × Fin 4 => (dutyTok ER (barCell p.1) 0 p.2 : sProp 𝕄)),
      bigSep_univ_equiv (Equiv.ofBijective _ sig_bij), bigSep_univ_prod]; rfl
  have h2 : (bigSep Finset.univ fun c : Dev nD => bigSep Finset.univ fun κ : Cp => (dutyTok ER (rcvCell κ c) 0 0 : sProp 𝕄))
      = bigSep Finset.univ fun c : Dev nD => bigSep Finset.univ fun κ : Cp => dutyTok ER (rcvCell κ (tgt c (dir κ))) 0 0 := by
    rw [bigSep_univ_comm, bigSep_univ_comm (fun (c : Dev nD) (κ : Cp) => (dutyTok ER (rcvCell κ (tgt c (dir κ))) 0 0 : sProp 𝕄))]
    exact bigSep_congr fun κ _ => bigSep_univ_equiv (Equiv.ofBijective _ (tgt_bij (dir κ))) fun c => (dutyTok ER (rcvCell κ c) 0 0 : sProp 𝕄)
  rw [h1, h2]

variable (X : Dev nD → Vec F S512x512 .f32) (Y : Dev nD → Vec F S512x2048 .f32)

/-- What the launch deals each device: its semaphores' round states, positions, reached marks and tokens. -/
def G (c : Dev nD) : sProp 𝕄 :=
  iprop((bigSep Finset.univ fun k : Cell => roundState ER (sched X Y) (kcell (c, k)) 0)
    ∗ (bigSep Finset.univ fun k : Cell => atPos ER (kcell (c, k)) 0 ∅ 0) ∗ (bigSep Finset.univ fun k : Cell => reached ER (kcell (c, k)) 0) ∗ toks c)

theorem fund_all : BI.own (ER (initOf allCells allToks)) ⊢ (|==> bigSep Finset.univ (G X Y) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched X Y) allCells allToks) $$ HX with ⟨Hst, Hr, Hat, Htok⟩
  imodintro
  ihave Hst := (Entails.of_eq (hX fun g => roundState ER (sched X Y) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat]; · iexact Hat
  isplitl [Hr] <;> iassumption

/-! ## Allocating -/

/-- What every device learns at launch. -/
def records (K : Dev nD × Cell → ℕ) : sProp 𝕄 :=
  iprop((bigSep Finset.univ fun ck : Dev nD × Cell => cellInv ER (sched X Y) (K ck) (kcell ck))
    ∗ bigSep Finset.univ fun ck : Dev nD × Cell => reached ER (kcell ck) 0)

instance records_persistent (K : Dev nD × Cell → ℕ) : BI.Persistent (records X Y K) := by unfold records; infer_instance

/-- A device's share after the allocation. -/
def G' (c : Dev nD) : sProp 𝕄 := iprop(∃ K, records X Y K ∗ linear c)

theorem core_alloc (c : Dev nD) :
    iprop(Pipeline.ownSems0 (Ix := Unit) (Name := ℕ) (U := UU) (Lvl := ℕ) (Val := Elt F) (τ := τ) osem c ∗ unscopedSems0 c ∗ G X Y c)
      ⊢ |={Set.univ}=> iprop((bigSep Finset.univ fun k : Cell => iprop(∃ κ : ℕ, cellInv ER (sched X Y) κ (kcell (c, k))))
          ∗ (bigSep Finset.univ fun k : Cell => atPos ER (kcell (c, k)) 0 ∅ 0) ∗ (bigSep Finset.univ fun k : Cell => reached ER (kcell (c, k)) 0) ∗ toks c) := by
  have halloc : iprop(closed c ∗ bigSep Finset.univ fun k : Cell => roundState ER (sched X Y) (kcell (c, k)) 0)
      ⊢ |={Set.univ}=> bigSep Finset.univ fun k : Cell => iprop(∃ κ : ℕ, cellInv ER (sched X Y) κ (kcell (c, k))) := by
    unfold closed
    rw [← bigSep_sep']
    exact (bigSep_mono fun k _ => (Rounds.body_intro ER (sched X Y) (kcell (c, k))).trans inv_alloc).trans (bigSep_fupd _ _)
  unfold G
  iintro ⟨Hos, Hus, Hst, Hrest⟩
  imod halloc $$ [Hos Hus Hst] with Hinv
  · rw [closed_eq]
    isplitl [Hos Hus]
    · isplitl [Hus] <;> iassumption
    iexact Hst
  imodintro
  isplitl [Hinv] <;> iassumption

theorem share_out (K : Dev nD × Cell → ℕ) (c : Dev nD) :
    iprop(records X Y K ∗ ((bigSep Finset.univ fun k : Cell => atPos ER (kcell (c, k)) 0 ∅ 0) ∗ payToks c)) ⊢ G' X Y c := by
  unfold G' linear payToks
  iintro ⟨#HR, H⟩
  iexists K
  isplitr; · iexact HR
  iexact H

theorem regroup :
    (bigSep Finset.univ fun c : Dev nD => iprop((bigSep Finset.univ fun k : Cell => iprop(∃ κ : ℕ, cellInv ER (sched X Y) κ (kcell (c, k))))
          ∗ (bigSep Finset.univ fun k : Cell => atPos ER (kcell (c, k)) 0 ∅ 0) ∗ (bigSep Finset.univ fun k : Cell => reached ER (kcell (c, k)) 0) ∗ toks c) : sProp 𝕄)
      ⊢ bigSep Finset.univ (G' X Y) := by
  simp only [bigSep_sep']
  rw [toks_deal, ← bigSep_univ_prod (fun ck : Dev nD × Cell => iprop(∃ κ : ℕ, cellInv ER (sched X Y) κ (kcell ck))),
    ← bigSep_univ_prod (fun ck : Dev nD × Cell => (reached ER (kcell ck) 0 : sProp 𝕄))]
  iintro ⟨HI, Hat, #HR, Htok⟩
  ihave HK := (BI.bigSep_exists_pi Finset.univ (fun (ck : Dev nD × Cell) (κ : ℕ) => (cellInv ER (sched X Y) κ (kcell ck) : sProp 𝕄))) $$ HI
  icases HK with ⟨%K, #HI⟩
  iapply (bigSep_keep (R := records X Y K) fun c => share_out X Y K c)
  isplitr
  · unfold records; isplitl; · iexact HI
    iexact HR
  · rw [bigSep_sep']
    isplitl [Hat] <;> iassumption

/-- Every device's semaphores allocated, the records shared and the tokens dealt. -/
theorem glob : (bigSep Finset.univ fun c => iprop(Pipeline.ownSems0 (Ix := Unit) (Name := ℕ) (U := UU) (Lvl := ℕ) (Val := Elt F) (τ := τ) osem c ∗ unscopedSems0 c ∗ G X Y c) : sProp 𝕄)
    ⊢ |={Set.univ}=> bigSep Finset.univ (G' X Y) :=
  ((bigSep_mono fun c _ => core_alloc X Y c).trans (bigSep_fupd _ _)).trans (BI.fupd_mono (regroup X Y))

/-! ## The credits -/

theorem owed_bar (d n : Dev nD) (l : List Cp) : owed d l (barCell n) () = 0 := by
  induction l with
  | nil => rfl
  | cons κ l ih =>
    unfold owed
    rw [Pi.add_apply, Finsupp.add_apply, tallyAt_apply, ih, if_neg fun h => by cases congrArg Prod.snd (kcell_injective h.1)]
theorem owed₁_bar (d n : Dev nD) (l : List (Fin 4)) : owed₁ d l (barCell n) () = l.countP fun k => decide (sigDev k d = n) := by
  induction l with
  | nil => exact owed_bar d n _
  | cons k l ih =>
    unfold owed₁
    rw [Pi.add_apply, Finsupp.add_apply, tallyAt_apply, ih, List.countP_cons]
    congr 1
    by_cases h : sigDev k d = n
    · rw [if_pos ⟨by rw [h], rfl⟩, if_pos (decide_eq_true h)]
    · rw [if_neg fun e => h (congrArg Prod.fst (kcell_injective e.1)).symm, if_neg fun e => h (of_decide_eq_true e)]
open Classical in
theorem owed_rcv (d n : Dev nD) (κ : Cp) (l : List Cp) (hl : l.Nodup) :
    owed d l (rcvCell κ n) () = if κ ∈ l ∧ tgt d (dir κ) = n then amt κ else 0 := by
  induction l with
  | nil => rw [if_neg fun h => List.not_mem_nil h.1]; rfl
  | cons κ' l ih =>
    obtain ⟨ha, hl⟩ := List.nodup_cons.mp hl
    unfold owed
    rw [Pi.add_apply, Finsupp.add_apply, tallyAt_apply, ih hl]
    by_cases hκ : κ = κ'
    · subst hκ
      rw [if_neg fun h => ha h.1, Nat.zero_add]
      by_cases hn : tgt d (dir κ) = n
      · rw [if_pos ⟨by rw [hn], rfl⟩, if_pos ⟨List.mem_cons_self, hn⟩]
      · rw [if_neg fun e => hn (congrArg Prod.fst (kcell_injective e.1)).symm, if_neg fun e => hn e.2]
    · rw [if_neg fun e : rcvCell κ n = rcvCell κ' (tgt d (dir κ')) ∧ () = () => hκ (Sum.inr.inj (Sum.inr.inj (congrArg Prod.snd (kcell_injective e.1)))), Nat.add_zero]
      simp only [List.mem_cons, hκ, false_or]
theorem owed₁_rcv (d n : Dev nD) (κ : Cp) (l : List (Fin 4)) : owed₁ d l (rcvCell κ n) () = if tgt d (dir κ) = n then amt κ else 0 := by
  induction l with
  | nil => rw [owed₁, owed_rcv d n κ _ copies_nodup]; simp only [mem_copies, true_and]
  | cons k l ih =>
    unfold owed₁
    rw [Pi.add_apply, Finsupp.add_apply, tallyAt_apply, ih, if_neg fun h : rcvCell κ n = barCell (sigDev k d) ∧ () = () => (by cases congrArg Prod.snd (kcell_injective h.1)), Nat.add_zero]

theorem sum_bar : ∀ n : Dev nD, (∑ d : Dev nD, [0, 1, 2, 3].countP fun k : Fin 4 => decide (sigDev k d = n)) = 4 := by decide +kernel

/-- The devices owe a barrier four units, -/
theorem launch_bar (c : Dev nD) :
    tallyOn (barCell c) (launchCredit (Pipeline.owing O₀) 0 (barCell c)) = (tallyAt (barCell c) () 4 : CellTallies nD τ sig Unit) := by
  unfold tallyAt; refine congrArg _ (Finsupp.ext fun u => ?_); cases u
  rw [Pipeline.launchCredit_owing, Finsupp.single_eq_same, show (∑ d, O₀ d (barCell c) ()) = _ from Finset.sum_congr rfl fun d _ => owed₁_bar d c [0, 1, 2, 3]]
  exact sum_bar c
/-- and an arrival its amount. -/
theorem launch_rcv (κ : Cp) (c : Dev nD) :
    tallyOn (rcvCell κ c) (launchCredit (Pipeline.owing O₀) 0 (rcvCell κ c)) = (tallyAt (rcvCell κ c) () (amt κ) : CellTallies nD τ sig Unit) := by
  unfold tallyAt; refine congrArg _ (Finsupp.ext fun u => ?_); cases u
  obtain ⟨n, hn⟩ := (tgt_bij (dir κ)).2 c
  rw [Pipeline.launchCredit_owing, Finsupp.single_eq_same, show (∑ d, O₀ d (rcvCell κ c) ()) = _ from Finset.sum_congr rfl fun d _ => owed₁_rcv d c κ [0, 1, 2, 3],
    Finset.sum_eq_single n (fun d _ hd => if_neg fun e => hd ((tgt_bij (dir κ)).1 (e.trans hn.symm))) fun h => absurd (Finset.mem_univ _) h]
  exact if_pos hn

theorem launch_creds (c : Dev nD) : (Pipeline.launchCred O₀ c : sProp 𝕄) ⊢ creds c := by
  have h : (Pipeline.launchCred O₀ c : sProp 𝕄) ⊢ iprop(cred (tallyOn (barCell c) (launchCredit (Pipeline.owing O₀) 0 (barCell c)))
      ∗ (bigSep Finset.univ fun κ => cred (tallyOn (sndCell κ c) (launchCredit (Pipeline.owing O₀) 0 (sndCell κ c))))
      ∗ bigSep Finset.univ fun κ => cred (tallyOn (rcvCell κ c) (launchCredit (Pipeline.owing O₀) 0 (rcvCell κ c)))) := by
    have he := (bigSep_map (⟨csem, csem_injective⟩ : Cell ↪ SemLoc sig) (s := Finset.univ) (Φ := fun sm : SemLoc sig =>
      (cred (tallyOn ((c : Thread nD τ), sm) (launchCredit (Pipeline.owing O₀) 0 ((c : Thread nD τ), sm))) : sProp 𝕄))).trans (by_cell _)
    refine BIBase.Entails.trans ?_ (Entails.of_eq he)
    exact bigSep_subset (Finset.subset_univ _)
  simp only [launch_bar, launch_rcv] at h
  unfold creds
  iintro H
  ihave H := h $$ H
  icases H with ⟨H1, -, H2⟩
  isplitl [H1] <;> iassumption

end Cert.Dot

end
-- ==== Proof.Launch.lean ====
/-
The launch: the kernel's eight devices run from any memory with zero counters, every run ends, each result array holds
the contents computed, the arguments are unchanged and every counter is zero.
-/
module

public import proofs.«01_k».proof.Proof.Ghost
public import proofs.«01_k».proof.Proof.Gen.KernelIdeal.Launch
public import proofs.«01_k».proof.Proof.Gen.KernelIdeal.Points
public import Idealize.ShloMosaic.Lib.Pipeline.CollectiveSegs

@[expose] public section

noncomputable section

namespace Cert.Dot

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-- What the device's staging buffers of the arguments hold. -/
def xIn (c : Dev nD) : Vec F S512x512 .f32 := (win0_0.blk t0_0).view.read (Elt F) (m ((c : Thread nD τ).loc main_arg0))
def yIn (c : Dev nD) : Vec F S512x2048 .f32 := (win0_1.blk t0_0).view.read (Elt F) (m ((c : Thread nD τ).loc main_arg1))

/-- Before the body: the device's share of the protocol and the scratch buffers; -/
def Φ₀ (c : Dev nD) : sProp 𝕄 := iprop(start (xIn m) (yIn m) c ∗ Pipeline.scopedRest spec0 c)
/-- after it: the scratch buffers and the semaphores, closed. -/
def Φ₁ (c : Dev nD) : sProp 𝕄 := iprop(Pipeline.scopedRest spec0 c ∗ closed c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => yIn m c
    | ⟨2, _⟩ => outG (xIn m) (yIn m) c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A staging buffer held at given contents. -/
abbrev staged (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

theorem owns_staged (c : Dev nD) (b : Ref sig .tc) (f : b.ty.Contents (Elt F)) :
    (owns (Ix := Unit) (Name := ℕ) (U := UU) (Lvl := ℕ) (c : Thread nD τ) (Memref.whole b) fullShare f : sProp 𝕄) = staged c b f := by
  unfold owns; simp only [Memref.view_whole, View.read_whole, View.set_whole]

def bodyPre (c : Dev nD) : sProp 𝕄 :=
  iprop(Φ₀ m c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
def bodyPost (c : Dev nD) : sProp 𝕄 :=
  iprop(Φ₁ c ∗ (dats m ρ 0 c).owesAt () t0_0.succ ∗ staged c cc0_stg0_0 (xIn m c) ∗ staged c cc0_stg1_0 (yIn m c)
    ∗ staged c cc0_stg2_0 (outG (xIn m) (yIn m) c))

/-- The body's run, with what the pipeline hands it and takes back. -/
theorem run_body (c : Dev nD) : bodyPre m ρ c ⊢ run c (steps (F := F)) fun _ => bodyPost m ρ c := by
  unfold bodyPre Φ₀
  iintro ⟨⟨Hst, Hr⟩, Ho, ⟨%d0, %g0, %hg0, Hx⟩, ⟨%d1, %g1, %hg1, Hy⟩, ⟨%d2, %g2, -, Hout⟩⟩
  have hx : g0 = xIn m c := by rw [hg0]; unfold Dat.before; rw [if_pos (fetch0_0 t0_0)]; rfl
  have hy : g1 = yIn m c := by rw [hg1]; unfold Dat.before; rw [if_pos (fetch0_1 t0_0)]; rfl
  subst hx; subst hy
  unfold Dat.owesAt Pipeline.owesWithin
  icases Ho with ⟨%W, %hW, HO⟩
  rw [show (dats m ρ 0 c).owed t0_0.castSucc = O₀ c from rfl]
  ihave Hw := (run_steps (X := xIn m) (Y := yIn m) (c := c)) $$ [Hst Hr HO Hx Hy Hout]
  · isplitl [Hst]; · iexact Hst
    isplitl [Hr]; · iexact Hr
    isplitl [HO]; · unfold owSig; iexists W; iexact HO
    isplitl [Hx Hy]
    · unfold xy valAt; isplitl [Hx] <;> iassumption
    iexists g2; iexact Hout
  iapply (wp_wand frame (wpE (defs₀ (F := F)) 𝒱₀ (c : Thread nD τ) none) Set.univ) $$ Hw
  iintro %a ⟨HΦ, Ho, Hxy, Hout⟩
  unfold bodyPost Φ₁ Dat.owesAt Pipeline.owesWithin ow xy valAt
  rw [show (dats m ρ 0 c).owed t0_0.succ = 0 from rfl]
  icases Ho with ⟨%W', HO⟩
  icases Hxy with ⟨Hx, Hy⟩
  isplitl [HΦ]; · iexact HΦ
  isplitl [HO]
  · iexists W'
    isplitr; · ipureintro; exact fun _ _ => Or.inl trivial
    iexact HO
  isplitl [Hx]
  · iexists _; isplitr; · (ipureintro; rfl)
    iexact Hx
  isplitl [Hy]
  · iexists _; isplitr; · (ipureintro; rfl)
    iexact Hy
  iexists _; isplitr; · (ipureintro; rfl)
  iexact Hout

set_option maxRecDepth 4000 in
theorem body_obligation (c : Dev nD) : BodyObligation (dats (F := F) m ρ 0 c) (defs₀ (F := F)) 𝒱₀ () Set.univ := fun t => by
  have ht := fin_N0 t
  subst ht
  rw [bigSep_W0, bigSep_W0]
  simp only [owns_staged]
  have hp : defs₀ (F := F) Proc.tc 0 (t0_0, cfg0.slots t0_0) = steps (F := F) := by unfold defs₀ Defs.onTc; exact body_eq t0_0
  rw [hp]
  refine BIBase.Entails.trans (run_body m ρ c) ?_
  unfold run
  have h1 : (dats m ρ 0 c).after 0 t0_0 = xIn m c := rfl
  have h2 : (dats m ρ 0 c).after 1 t0_0 = yIn m c := rfl
  have h3 : (dats m ρ 0 c).after 2 t0_0 = outG (xIn m) (yIn m) c := rfl
  have h4 : (dats m ρ 0 c).Φ t0_0.succ = Φ₁ c := rfl
  unfold bodyPost
  rw [h1, h2, h3, h4]

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (yIn m) c)
      ⊢ |={Set.univ}=> iprop(start (xIn m) (yIn m) c ∗ emp) := by
  unfold start G' records known
  iintro ⟨-, Hlev, Hcr, -, ⟨%K, ⟨HI, HR⟩, Hl⟩⟩
  ihave Hc := (launch_creds (F := F) c) $$ Hcr
  imodintro
  isplitl
  · iexists K
    isplitl [Hlev HI HR]
    · isplitl [HI]; · iexact HI
      isplitl [HR] <;> iassumption
    isplitl [Hl] <;> iassumption
  · iempintro

theorem phi0_intro (c : Dev nD) :
    iprop(start (xIn m) (yIn m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [closed_eq]
  iintro ⟨Hr, Hu, Ho⟩
  isplitl [Hu]; · iexact Hu
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What a window's array holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every weakly fair execution of the eight devices ends, each
    window's array then holds its final contents, and every counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xIn m) (yIn m)) (G' := G' (xIn m) (yIn m)) (u₀ := u₀)
    (hu₀ := by
      unfold u₀
      iintro Hu
      ihave H := (ownU_pair _ _) $$ Hu
      icases H with ⟨HP, HX⟩
      imod (fund_all (xIn m) (yIn m)) $$ HX with HG
      imodintro
      isplitl [HP] <;> iassumption)
    (hglob := glob (xIn m) (yIn m))
    (hA := fun _ _ => rfl) (hpf := fun _ k => k.elim0)
    (X := start (xIn m) (yIn m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments end as they were. -/
theorem final_x (c : Dev nD) : finalA m ρ c (0 : Fin 3) = m ((c : Thread nD τ).loc main_arg0) := (dats (F := F) m ρ 0 c).arrAt_in (0 : Fin 3) rfl _
theorem final_y (c : Dev nD) : finalA m ρ c (1 : Fin 3) = m ((c : Thread nD τ).loc main_arg1) := (dats (F := F) m ρ 0 c).arrAt_in (1 : Fin 3) rfl _

end Cert.Dot

end
-- ==== Proof.Frames.lean ====
/-
The three frames: the kernel's program, its ideal reading and the reference end, leave their arguments as they were and
every counter at zero.
-/
module

public import proofs.«01_k».proof.Proof.Launch
public import proofs.«01_k».proof.Proof.Gen.Kernel
public import proofs.«01_k».proof.Proof.Gen.ReferenceIdeal.Run
public import proofs.«01_k».proof.Defs
public import Idealize.ShloMosaic.Lib.Quiescent

@[expose] public section

noncomputable section

namespace Cert.Dot

open Idealize.ShloMosaic Idealize.ShloMosaic.TcCoe Idealize.SL.Sem

/-- For any float values: the kernel runs, leaves its arguments and every counter is zero in the end. -/
theorem run_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (final_x m ρ c), (h.1 c (1 : Fin 3)).trans (final_y m ρ c)⟩, h.2⟩)
    (run_main m ρ)

/-- The ideal reading's frame. -/
theorem frame_ideal : Cert.quiescent_KernelIdeal (hKernelIdeal := Cert.KernelIdeal.Gen.facts) := fun m ρ _ => run_kept m ρ

/-- The kernel's program and its ideal reading have the same text: the same body, -/
theorem bodies_eq {F : FTy → Type} [FloatOps F] : Cert.Kernel.defs₀ (F := F) = Cert.KernelIdeal.defs₀ (F := F) := by
  unfold Cert.Kernel.defs₀ Cert.KernelIdeal.defs₀
  refine congrArg _ ?_
  funext l x
  match l, x with
  | ⟨0, _⟩, (t, s) => exact rfl

/-- and the same table of definitions. -/
theorem tables_eq {F : FTy → Type} [FloatOps F] : Cert.Kernel.defs (F := F) = Cert.KernelIdeal.defs (F := F) := by
  unfold Cert.Kernel.defs Cert.KernelIdeal.defs
  rw [bodies_eq]
  exact rfl

/-- So its frame is the same run over words. -/
theorem frame_kernel : Cert.quiescent_Kernel (hKernel := Cert.Kernel.Gen.facts) := fun m ρ _ => by
  rw [tables_eq]
  exact run_kept (F := Bits) m ρ

/-- The reference runs and leaves its arguments; it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Dot

end
-- ==== Proof.Payloads.lean ====
/-
What the kernel's stored vectors are over the extended reals, entry by entry: casts change nothing, a product is a sum
over the contracted rows.
-/
module

public import proofs.«01_k».proof.Proof.Contents
public import Idealize.ShloMosaic.Lib.Pointwise
public import Idealize.ShloMosaic.PureOps.Ideal.Laws

@[expose] public section

noncomputable section

namespace Cert.Dot

open Cert.KernelIdeal Cert.KernelIdeal.Gen
open Idealize.ShloMosaic Idealize.ShloMosaic.TcCoe

theorem pay1_apply (a : Vec Ideal S512x512 .f32) (b : Vec Ideal S512x256 .f32) (r : Fin 512) (l : Fin 256) :
    k0_pay1 a b (ix2 r l) = ∑ k : Fin 512, a (ix2 k r) * b (ix2 k l) := by
  unfold k0_pay1
  simp only [pointwise]
  exact zero_add _
theorem pay2_apply (v : Vec Ideal S256x256 .f32) (r l : Fin 256) : k0_pay2 v (ix3 0 r l) = v (ix2 r l) := by
  unfold k0_pay2
  simp only [pointwise]
theorem pay16_apply (v : Vec Ideal S64x256 .f32) (r : Fin 64) (l : Fin 256) : k0_pay16 v (ix5 0 0 0 r l) = v (ix2 r l) := by
  unfold k0_pay16
  simp only [pointwise]
theorem pay41_apply (v : Vec Ideal S64x256 .f32) (w0 w1 w2 : Vec Ideal S1x1x1x64x256 .bf16) (r : Fin 64) (l : Fin 256) :
    k0_pay41 v w0 w1 w2 (ix3 0 r l) = v (ix2 r l) + w0 (ix5 0 0 0 r l) + w1 (ix5 0 0 0 r l) + w2 (ix5 0 0 0 r l) := by
  unfold k0_pay41
  simp only [pointwise]
theorem pay42_apply (v : Vec Ideal S64x256 .f32) (w0 w1 w2 : Vec Ideal S1x1x1x64x256 .bf16) (r : Fin 64) (l : Fin 256) :
    k0_pay42 v w0 w1 w2 (ix3 0 r l) = v (ix2 r l) + w0 (ix5 0 0 0 r l) + w1 (ix5 0 0 0 r l) + w2 (ix5 0 0 0 r l) := by
  unfold k0_pay42
  simp only [pointwise]
theorem pay49_apply (w : Vec Ideal S1x256x256 .bf16) (v : Vec Ideal S256x256 .f32) (r l : Fin 256) :
    k0_pay49 w v (ix3 0 r l) = w (ix3 0 r l) + v (ix2 r l) := by
  unfold k0_pay49
  simp only [pointwise]
theorem pay50_apply (v : Vec Ideal S1x64x256 .f32) (r : Fin 64) (l : Fin 256) : k0_pay50 v (ix4 0 0 r l) = v (ix3 0 r l) := by
  unfold k0_pay50
  simp only [pointwise]
theorem pay74_apply (v : Vec Ideal S1x64x256 .f32) (w : Vec Ideal S1x64x256 .bf16) (r : Fin 64) (l : Fin 256) :
    k0_pay74 v w (ix2 r l) = v (ix3 0 r l) + w (ix3 0 r l) := by
  unfold k0_pay74
  simp only [pointwise]
theorem pay77_apply (v : Vec Ideal S1x64x256 .f32) (w0 w1 w2 : Vec Ideal S1x1x64x256 .bf16) (r : Fin 64) (l : Fin 256) :
    k0_pay77 v w0 w1 w2 (ix2 r l) = v (ix3 0 r l) + w0 (ix4 0 0 r l) + w1 (ix4 0 0 r l) + w2 (ix4 0 0 r l) := by
  unfold k0_pay77
  simp only [pointwise]

end Cert.Dot

end
-- ==== Proof.Sums.lean ====
/-
The kernel's result over the extended reals: every entry is the sum, over the eight devices, of that entry of their
products. Each buffer of the exchange is read as sums of entries of products.
-/
module

public import proofs.«01_k».proof.Proof.Payloads

@[expose] public section

noncomputable section

namespace Cert.Dot

open Cert.KernelIdeal Cert.KernelIdeal.Gen
open Idealize.ShloMosaic Idealize.ShloMosaic.TcCoe

/-! ## The mesh -/

theorem tgt_half (c : Dev nD) : (tgt c 0).val / 4 = 1 - c.val / 4 ∧ (tgt c 0).val % 4 = c.val % 4 := by revert c; decide
theorem tgt_plane (c : Dev nD) (o : Fin 3) : (tgt c (-(Fin.succ o))).val / 4 = c.val / 4
    ∧ ((tgt c (-(Fin.succ o))).val % 4 + o.val + 1) % 4 = c.val % 4 := by revert c o; decide
theorem tgt_comm (c : Dev nD) (k : Fin 4) : tgt (tgt c 0) k = tgt (tgt c k) 0 := by revert c k; decide

/-- The eight devices seen from one of them: itself, its mate, its three peers in the plane and their mates. -/
theorem sum_mesh {M : Type} [AddCommMonoid M] (f : Dev nD → M) (c : Dev nD) : ∑ d, f d =
    f c + f (tgt c (-(Fin.succ (0 : Fin 3)))) + f (tgt c (-(Fin.succ (1 : Fin 3)))) + f (tgt c (-(Fin.succ (2 : Fin 3))))
      + (f (tgt c 0) + f (tgt (tgt c (-(Fin.succ (0 : Fin 3)))) 0) + f (tgt (tgt c (-(Fin.succ (1 : Fin 3)))) 0)
        + f (tgt (tgt c (-(Fin.succ (2 : Fin 3)))) 0)) := by
  let l : List (Dev nD) := [c, tgt c (-(Fin.succ (0 : Fin 3))), tgt c (-(Fin.succ (1 : Fin 3))), tgt c (-(Fin.succ (2 : Fin 3))),
    tgt c 0, tgt (tgt c (-(Fin.succ (0 : Fin 3)))) 0, tgt (tgt c (-(Fin.succ (1 : Fin 3)))) 0, tgt (tgt c (-(Fin.succ (2 : Fin 3)))) 0]
  have hn : l.Nodup := by revert c; decide
  have hu : l.toFinset = Finset.univ := by revert c; decide
  rw [← hu, List.sum_toFinset f hn]
  simp only [l, List.map_cons, List.map_nil, List.sum_cons, List.sum_nil, add_zero]
  ac_rfl

section
variable (X : Dev nD → Vec Ideal S512x512 .f32) (Y : Dev nD → Vec Ideal S512x2048 .f32)

/-- Entry `(r, l)` of device `d`'s product. -/
def entry (d : Dev nD) (r l : ℕ) : EReal := ∑ k : Fin 512, (X d (ix2 k (Fin.ofNat 512 r)) : EReal) * (Y d (ix2 k (Fin.ofNat 2048 l)) : EReal)

variable (c : Dev nD)

theorem acc_entry (i : S512x2048.Idx) : accG X Y c i = entry X Y c (i 0).val (i 1).val := by
  have h0 : (i 0).val < 512 := (i 0).isLt
  have h1 : (i 1).val < 2048 := (i 1).isLt
  unfold accG accV
  refine (pay1_apply _ _ _ _).trans (Finset.sum_congr rfl fun k _ => ?_)
  refine congr (congrArg HMul.hMul (congrArg (X c) ?_)) (congrArg (Y c) ?_)
  · refine congrArg (ix2 k) (Fin.ext ?_)
    show (i 0).val = (i 0).val % 512; omega
  · funext a
    fin_cases a
    · exact Fin.ext (show 0 + 1 * k.val = k.val by omega)
    · exact Fin.ext (show 256 * ((i 1).val / 256) + 1 * ((i 1).val % 256) = (i 1).val % 2048 by omega)

/-! ## Column blocks 3 to 7 -/

/-- The half block that lands from the mate. -/
theorem zbr_entry (i : S5x256x256.Idx) :
    zbrG X Y c i = entry X Y (tgt c 0) (256 * (c.val / 4) + (i 1).val) (768 + 256 * (i 0).val + (i 2).val) := by
  unfold zbrG zbsG zbsV
  refine (pay2_apply _ _ _).trans ((acc_entry X Y _ _).trans ?_)
  have h := tgt_half c
  have hc : c.val / 4 ≤ 1 := by have := c.isLt; simp only [nD] at this; omega
  refine congr (congrArg (entry X Y _) ?_) ?_
  · refine (congrArg (· + 1 * (i 1).val) (congrFun (zbOff_eq (i 0) (tgt c 0)) 0)).trans ?_
    show 256 - 256 * ((tgt c 0).val / 4) + 1 * (i 1).val = _
    omega
  · refine (congrArg (· + 1 * (i 2).val) (congrFun (zbOff_eq (i 0) (tgt c 0)) 1)).trans ?_
    show 768 + 256 * (i 0).val + 1 * (i 2).val = _
    omega

/-- The pair's sum. -/
theorem pair_entry (i : S5x256x256.Idx) :
    pairG X Y c i = (entry X Y (tgt c 0) (256 * (c.val / 4) + (i 1).val) (768 + 256 * (i 0).val + (i 2).val)
      + entry X Y c (256 * (c.val / 4) + (i 1).val) (768 + 256 * (i 0).val + (i 2).val) : EReal) := by
  unfold pairG pairV
  refine (pay49_apply _ _ _ _).trans (congr (congrArg HAdd.hAdd ?_) ?_)
  · exact (congrArg (zbrG X Y c) (zbR_emb (i 0) (ix3 0 (i 1) (i 2)))).trans (zbr_entry X Y c (ValueIdx.ix3 (i 0) (i 1) (i 2)))
  · refine (acc_entry X Y _ _).trans (congr (congrArg (entry X Y _) ?_) ?_)
    · refine (congrArg (· + 1 * (i 1).val) (congrFun (keepOff_eq (i 0) c) 0)).trans ?_
      show 256 * (c.val / 4) + 1 * (i 1).val = _
      omega
    · refine (congrArg (· + 1 * (i 2).val) (congrFun (keepOff_eq (i 0) c) 1)).trans ?_
      show 768 + 256 * (i 0).val + 1 * (i 2).val = _
      omega

/-- The pair's sum at the device's own rows; -/
theorem own_entry (bi : Fin 5) (r : Fin 64) (l : Fin 256) :
    pairG X Y c ((prowsR (ownOff bi c) (ownOff_inb bi c)).emb (ix3 0 r l))
      = (entry X Y (tgt c 0) (64 * c.val + r.val) (768 + 256 * bi.val + l.val)
        + entry X Y c (64 * c.val + r.val) (768 + 256 * bi.val + l.val) : EReal) := by
  have e0 : ((prowsR (ownOff bi c) (ownOff_inb bi c)).emb (ix3 0 r l) 0).val = bi.val := by
    show ownOff bi c 0 + 1 * 0 = _; rw [ownOff_eq]; rfl
  have e1 : 256 * (c.val / 4) + ((prowsR (ownOff bi c) (ownOff_inb bi c)).emb (ix3 0 r l) 1).val = 64 * c.val + r.val := by
    show 256 * (c.val / 4) + (ownOff bi c 1 + 1 * r.val) = _; rw [ownOff_eq]
    show 256 * (c.val / 4) + (64 * (c.val % 4) + 1 * r.val) = _; omega
  have e2 : ((prowsR (ownOff bi c) (ownOff_inb bi c)).emb (ix3 0 r l) 2).val = l.val := by
    show ownOff bi c 2 + 1 * l.val = _; rw [ownOff_eq]
    show 0 + 1 * l.val = _; omega
  rw [pair_entry, e0, e1, e2]

/-- a plane peer's, as it lands. -/
theorem brecv_entry (bi : Fin 5) (o : Fin 3) (r : Fin 64) (l : Fin 256) :
    brecvG X Y c ((bR bi o).emb (ix4 0 0 r l))
      = (entry X Y (tgt (tgt c (-(Fin.succ o))) 0) (64 * c.val + r.val) (768 + 256 * bi.val + l.val)
        + entry X Y (tgt c (-(Fin.succ o))) (64 * c.val + r.val) (768 + 256 * bi.val + l.val) : EReal) := by
  rw [bR_emb]
  unfold brecvG bbufG bbufV
  show k0_pay50 _ (ix4 0 0 r l) = _
  refine (pay50_apply _ _ _).trans ?_
  generalize hd : tgt c (-(Fin.succ o)) = d
  have hp := tgt_plane c o
  rw [hd] at hp
  have e0 : ((prowsR (bOff bi o d) (bOff_inb bi o d)).emb (ix3 0 r l) 0).val = bi.val := by
    show bOff bi o d 0 + 1 * 0 = _; rw [bOff_eq]; rfl
  have e1 : 256 * (d.val / 4) + ((prowsR (bOff bi o d) (bOff_inb bi o d)).emb (ix3 0 r l) 1).val = 64 * c.val + r.val := by
    show 256 * (d.val / 4) + (bOff bi o d 1 + 1 * r.val) = _; rw [bOff_eq]
    show 256 * (d.val / 4) + (64 * ((d.val % 4 + o.val + 1) % 4) + 1 * r.val) = _; omega
  have e2 : ((prowsR (bOff bi o d) (bOff_inb bi o d)).emb (ix3 0 r l) 2).val = l.val := by
    show bOff bi o d 2 + 1 * l.val = _; rw [bOff_eq]
    show 0 + 1 * l.val = _; omega
  show pairG X Y (tgt c (-(Fin.succ o))) ((prowsR (bOff bi o (tgt c (-(Fin.succ o)))) _).emb (ix3 0 r l)) = _
  rw! [hd]
  rw [pair_entry, e0, e1, e2]

/-- The result's column block `3 + bi`. -/
theorem outB_entry (bi : Fin 5) (r : Fin 64) (l : Fin 256) :
    outBV X Y c bi (ix2 r l) = ∑ d, entry X Y d (64 * c.val + r.val) (768 + 256 * bi.val + l.val) := by
  unfold outBV
  refine (pay77_apply _ _ _ _ _ _).trans ?_
  rw [own_entry, brecv_entry, brecv_entry, brecv_entry, sum_mesh _ c]
  show (_ + _ + (_ + _) + (_ + _) + (_ + _) : EReal) = _
  ac_rfl

/-! ## Column blocks 0 to 2 -/

/-- Where in its half of the rows device `c` finds its own block (`h = 0`) and its mate's. -/
abbrev side (h : Fin 2) : ℕ := if h = 0 then 256 * (c.val / 4) else 256 - 256 * (c.val / 4)

theorem arecv_entry (ai o : Fin 3) (h : Fin 2) (r : Fin 64) (l : Fin 256) :
    arecvG X Y c ((ahR ai o h).emb (ix5 0 0 0 r l))
      = entry X Y (tgt c (-(Fin.succ o))) (64 * (c.val % 4) + side c h + r.val) (256 * ai.val + l.val) := by
  rw [ahR_emb]
  unfold arecvG abufG abufV
  show k0_pay16 _ (ix5 0 0 0 r l) = _
  refine (pay16_apply _ _ _).trans ((acc_entry X Y _ _).trans ?_)
  show entry X Y (tgt c (-(Fin.succ o))) (aOff ai h o (tgt c (-(Fin.succ o))) 0 + 1 * r.val) (aOff ai h o (tgt c (-(Fin.succ o))) 1 + 1 * l.val) = _
  have hp := tgt_plane c o
  rw [aOff_eq, hp.1]
  refine congr (congrArg (entry X Y _) ?_) ?_
  · show 64 * (((tgt c (-(Fin.succ o))).val % 4 + o.val + 1) % 4) + side c h + 1 * r.val = _
    rw [hp.2]; omega
  · show 256 * ai.val + 1 * l.val = _
    omega

theorem my_entry (ai : Fin 3) (h : Fin 2) (r : Fin 64) (l : Fin 256) :
    accG X Y c ((rowsR (myOff ai h c) (myOff_inb ai h c)).emb (ix2 r l))
      = entry X Y c (64 * (c.val % 4) + side c h + r.val) (256 * ai.val + l.val) := by
  refine (acc_entry X Y _ _).trans ?_
  show entry X Y c (myOff ai h c 0 + 1 * r.val) (myOff ai h c 1 + 1 * l.val) = _
  rw [myOff_eq]
  refine congr (congrArg (entry X Y _) ?_) ?_
  · show 64 * (c.val % 4) + side c h + 1 * r.val = _
    omega
  · show 256 * ai.val + 1 * l.val = _
    omega

/-- The plane's sum of the device's own rows; -/
theorem asum_entry (ai : Fin 3) (r : Fin 64) (l : Fin 256) :
    asumG X Y c ((azR ai).emb (ix3 0 r l)) = (entry X Y c (64 * c.val + r.val) (256 * ai.val + l.val)
      + entry X Y (tgt c (-(Fin.succ (0 : Fin 3)))) (64 * c.val + r.val) (256 * ai.val + l.val)
      + entry X Y (tgt c (-(Fin.succ (1 : Fin 3)))) (64 * c.val + r.val) (256 * ai.val + l.val)
      + entry X Y (tgt c (-(Fin.succ (2 : Fin 3)))) (64 * c.val + r.val) (256 * ai.val + l.val) : EReal) := by
  have hs : 64 * (c.val % 4) + side c 0 + r.val = 64 * c.val + r.val := by
    show 64 * (c.val % 4) + 256 * (c.val / 4) + r.val = _; omega
  rw [azR_emb]
  unfold asumG asumV
  show k0_pay41 _ _ _ _ (ix3 0 r l) = _
  refine (pay41_apply _ _ _ _ _ _).trans ?_
  show (accG X Y c ((rowsR (myOff ai 0 c) _).emb (ix2 r l)) + arecvG X Y c ((ahR ai 0 0).emb (ix5 0 0 0 r l))
    + arecvG X Y c ((ahR ai 1 0).emb (ix5 0 0 0 r l)) + arecvG X Y c ((ahR ai 2 0).emb (ix5 0 0 0 r l)) : EReal) = _
  rw [my_entry, arecv_entry, arecv_entry, arecv_entry, hs]

/-- the mate's plane's, landed. -/
theorem azr_entry (ai : Fin 3) (r : Fin 64) (l : Fin 256) :
    azrG X Y c ((azR ai).emb (ix3 0 r l)) = (entry X Y (tgt c 0) (64 * c.val + r.val) (256 * ai.val + l.val)
      + entry X Y (tgt (tgt c (-(Fin.succ (0 : Fin 3)))) 0) (64 * c.val + r.val) (256 * ai.val + l.val)
      + entry X Y (tgt (tgt c (-(Fin.succ (1 : Fin 3)))) 0) (64 * c.val + r.val) (256 * ai.val + l.val)
      + entry X Y (tgt (tgt c (-(Fin.succ (2 : Fin 3)))) 0) (64 * c.val + r.val) (256 * ai.val + l.val) : EReal) := by
  have hs : 64 * ((tgt c 0).val % 4) + side (tgt c 0) 1 + r.val = 64 * c.val + r.val := by
    have h := tgt_half c
    have hc : c.val / 4 ≤ 1 := by have := c.isLt; simp only [nD] at this; omega
    show 64 * ((tgt c 0).val % 4) + (256 - 256 * ((tgt c 0).val / 4)) + r.val = _; omega
  rw [azR_emb]
  unfold azrG azsG azsV
  show k0_pay42 _ _ _ _ (ix3 0 r l) = _
  refine (pay42_apply _ _ _ _ _ _).trans ?_
  show (accG X Y (tgt c 0) ((rowsR (myOff ai 1 (tgt c 0)) _).emb (ix2 r l)) + arecvG X Y (tgt c 0) ((ahR ai 0 1).emb (ix5 0 0 0 r l))
    + arecvG X Y (tgt c 0) ((ahR ai 1 1).emb (ix5 0 0 0 r l)) + arecvG X Y (tgt c 0) ((ahR ai 2 1).emb (ix5 0 0 0 r l)) : EReal) = _
  rw [my_entry, arecv_entry, arecv_entry, arecv_entry, hs, tgt_comm, tgt_comm, tgt_comm]

/-- The result's column block `ai`. -/
theorem outA_entry (ai : Fin 3) (r : Fin 64) (l : Fin 256) :
    outAV X Y c ai (ix2 r l) = ∑ d, entry X Y d (64 * c.val + r.val) (256 * ai.val + l.val) := by
  unfold outAV
  refine (pay74_apply _ _ _ _).trans ?_
  rw [asum_entry, azr_entry, sum_mesh _ c]

/-- Every entry of the device's result is the sum over the devices of that entry of their products. -/
theorem out_entry (i : S64x2048.Idx) : outG X Y c i = ∑ d, entry X Y d (64 * c.val + (i 0).val) (i 1).val := by
  have h1 : (i 1).val < 2048 := (i 1).isLt
  have key : ∀ (st : Fin 8) (l : Fin 256), outV X Y c st (ix2 (i 0) l) = ∑ d, entry X Y d (64 * c.val + (i 0).val) (256 * st.val + l.val) := by
    intro st l
    unfold outV
    induction st using Fin.addCases (m := 3) (n := 5) with
    | left ai => rw [Fin.addCases_left]; exact outA_entry X Y c ai (i 0) l
    | right bi =>
      rw [Fin.addCases_right]
      refine (outB_entry X Y c bi (i 0) l).trans (Finset.sum_congr rfl fun d _ => congrArg _ ?_)
      show 768 + 256 * bi.val + l.val = 256 * (3 + bi.val) + l.val; omega
  unfold outG
  refine (key _ _).trans (Finset.sum_congr rfl fun d _ => congrArg _ ?_)
  show 256 * ((i 1).val / 256) + (i 1).val % 256 = (i 1).val; omega

end

end Cert.Dot

end
-- ==== Proof.Value.lean ====
/-
The value: the kernel's result on device `c` is block `c` of the rows of the reference's product. The reference contracts
4096 rows at once; the kernel's devices contract 512 each, and their sums add up to the same.
-/
module

public import proofs.«01_k».proof.Proof.Frames
public import proofs.«01_k».proof.Proof.Sums

@[expose] public section

noncomputable section

namespace Cert.Dot

open Cert.KernelIdeal Cert.KernelIdeal.Gen
open Idealize.ShloMosaic Idealize.ShloMosaic.TcCoe Idealize.SL.Sem

/-! ## What the arrays hold -/

section
variable {F : FTy → Type} [FloatOps F]
variable (m : (ℓ : Loc nD τ sig) → Buf (Elt F) ℓ) (ρ : Dev nD → PrngReg) (c : Dev nD)

/-- The body is handed the whole of the device's argument arrays, -/
theorem xIn_eq : xIn m c = m ((c : Thread nD τ).loc main_arg0) :=
  Memref.read_access_unit_zero (Elt F) main_arg0 (funext fun _ => Nat.zero_mul _) _ _
theorem yIn_eq : yIn m c = m ((c : Thread nD τ).loc main_arg1) :=
  Memref.read_access_unit_zero (Elt F) main_arg1 (funext fun _ => Nat.zero_mul _) _ _

/-- and the whole of its result array holds what the body left. -/
theorem final_out : finalA m ρ c (2 : Fin 3) = outG (xIn m) (yIn m) c := by
  have h : (win0_2.blk t0_0).view.read (Elt F) (finalA m ρ c (2 : Fin 3)) = outG (xIn m) (yIn m) c := by
    unfold finalA
    rw [show cfg0.N = t0_0.val + 1 from rfl, (dats m ρ 0 c).arrAt_succ (2 : Fin 3) t0_0]
    rw [show (cfg0.win (2 : Fin 3)).flush t0_0 = true from flush0_2 t0_0, if_pos rfl]
    exact View.read_write_univ _ _
  exact (Memref.read_access_unit_zero (Elt F) main_v1 (funext fun _ => Nat.zero_mul _) _ _).symm.trans h

end

/-! ## The reference's product -/

/-- The reference's result from its arguments. -/
abbrev product (x : FVec Ideal Cert.ReferenceIdeal.S4096x512 .f32) (y : FVec Ideal Cert.ReferenceIdeal.S4096x2048 .f32) :
    FVec Ideal Cert.ReferenceIdeal.S512x2048 .f32 :=
  Host.dotGeneral Cert.ReferenceIdeal.dot_S512x4096_S4096x2048_S512x2048_1_0_0_1_n_n none
    (transpose Cert.ReferenceIdeal.S512x4096 [1, 0] x Cert.ReferenceIdeal.Gen.transposes_S4096x512_S512x4096_1_0) y

/-- Entry by entry it is the sum over the 4096 rows. -/
theorem product_apply (x : FVec Ideal Cert.ReferenceIdeal.S4096x512 .f32) (y : FVec Ideal Cert.ReferenceIdeal.S4096x2048 .f32)
    (r : Fin 512) (l : Fin 2048) : product x y (ix2 r l) = ∑ k : Fin 4096, x (ix2 k r) * y (ix2 k l) := by
  unfold product
  simp only [pointwise]
  exact zero_add _

/-- The device's result, from its blocks of two whole arrays, is its block of their product. -/
theorem out_block (x : FVec Ideal Cert.ReferenceIdeal.S4096x512 .f32) (y : FVec Ideal Cert.ReferenceIdeal.S4096x2048 .f32) (c : Dev nD) :
    outG (F := Ideal) (fun d => Layout.block ⟨2, ![512, 512]⟩ ⟨2, ![4096, 512]⟩ 0 8 d x)
        (fun d => Layout.block ⟨2, ![512, 2048]⟩ ⟨2, ![4096, 2048]⟩ 0 8 d y) c
      = Layout.block ⟨2, ![64, 2048]⟩ ⟨2, ![512, 2048]⟩ 0 8 c (product x y) := by
  funext i
  have hc : c.val < 8 := c.isLt
  have h0 : (i 0).val < 64 := (i 0).isLt
  have h1 : (i 1).val < 2048 := (i 1).isLt
  rw [out_entry, Layout.block_apply]
  have hi : ∀ h : Layout.Tiles ⟨2, ![64, 2048]⟩ ⟨2, ![512, 2048]⟩ 0 8,
      h.idx c i = ix2 ⟨c.val * 64 + (i 0).val, by omega⟩ ⟨(i 1).val, h1⟩ := fun h => by
    funext a; fin_cases a <;> rfl
  rw [hi, product_apply, Fin.sum_univ_tiles 8 512 rfl]
  refine Finset.sum_congr rfl fun d _ => Finset.sum_congr rfl fun k _ => ?_
  show Layout.block _ _ 0 8 d x _ _ * Layout.block _ _ 0 8 d y _ _ = _
  rw [Layout.block_apply, Layout.block_apply]
  refine congr (congrArg HMul.hMul (congrArg x ?_)) (congrArg y ?_)
  · funext a
    fin_cases a
    · rfl
    · exact Fin.ext (show (64 * c.val + (i 0).val) % 512 = c.val * 64 + (i 0).val by omega)
  · funext a
    fin_cases a
    · rfl
    · exact Fin.ext (show (i 1).val % 2048 = (i 1).val by omega)

/-- The kernel's ideal reading computes the reference's product, each device its block of the rows. -/
theorem value : Cert.algebraic_KernelIdeal_ReferenceIdeal (hKernelIdeal := Cert.KernelIdeal.Gen.facts)
    (hReferenceIdeal := Cert.ReferenceIdeal.Gen.facts) := fun m ρ m' ρ' _ hin => by
  refine ⟨product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => ⟨?_, ?_, ?_⟩) (run_main (F := Ideal) m ρ),
    (θ_run Cert.ReferenceIdeal.defs _ _).mono (fun _ h => h 0) (Cert.ReferenceIdeal.Value.run (F := Ideal) m' ρ')⟩
  · refine ((h.1 c (2 : Fin 3)).trans (final_out m ρ c)).trans ?_
    rw [show xIn m = _ from funext fun d => (xIn_eq m d).trans (hin d).1, show yIn m = _ from funext fun d => (yIn_eq m d).trans (hin d).2]
    exact out_block _ _ c
  · exact (h.1 c (0 : Fin 3)).trans (final_x m ρ c)
  · exact (h.1 c (1 : Fin 3)).trans (final_y m ρ c)

end Cert.Dot

end
-- ==== Proof.lean ====
/-
The proof of the claims: the kernel's program, its ideal reading and the reference each run, leave their arguments and
every counter at zero (Proof/Frames.lean), and the ideal reading computes the reference's product (Proof/Value.lean).
-/
module

public import proofs.«01_k».proof.Proof.Value

@[expose] public section

noncomputable section

namespace Cert.Proof

/-- All five claims. -/
theorem claim : Cert.Claim := ⟨Cert.Kernel.Gen.facts, Cert.KernelIdeal.Gen.facts, Cert.ReferenceIdeal.Gen.facts,
  Cert.Dot.frame_kernel, Cert.Dot.frame_ideal, Cert.Dot.frame_reference, trivial, Cert.Dot.value⟩

end Cert.Proof

end
